-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v20)) (v6 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_v15_4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S12x128x3584 : Shape := ⟨3, ![12, 128, 3584]⟩
abbrev S12x128x18944 : Shape := ⟨3, ![12, 128, 18944]⟩
abbrev S18944x3584 : Shape := ⟨2, ![18944, 3584]⟩
abbrev S18944 : Shape := ⟨1, ![18944]⟩
abbrev S_ : Shape := ⟨0, ![]⟩
abbrev S3584 : Shape := ⟨1, ![3584]⟩

class Facts : Prop where
  reducesTo_S12x128x3584_S3584_d0_1 : S12x128x3584.ReducesTo [0, 1] S3584
  h_S_ : 0 < S_.numel
  bitsLt_bf16_f32 : FTy.bits .bf16 < FTy.bits .f32
  bcast_S_S3584 : S_.BroadcastsInDim S3584 (![] : Fin 0 → Fin S3584.rank)
  bcast_S_S12x128x3584 : S_.BroadcastsInDim S12x128x3584 (![] : Fin 0 → Fin S12x128x3584.rank)
  reducesTo_S12x128x3584_S_d0_1_2 : S12x128x3584.ReducesTo [0, 1, 2] S_
  reducesTo_S3584_S_d0 : S3584.ReducesTo [0] S_
  reducesTo_S12x128x18944_S18944_d0_1 : S12x128x18944.ReducesTo [0, 1] S18944
  bcast_S_S18944 : S_.BroadcastsInDim S18944 (![] : Fin 0 → Fin S18944.rank)
  bcast_S_S12x128x18944 : S_.BroadcastsInDim S12x128x18944 (![] : Fin 0 → Fin S12x128x18944.rank)
  reducesTo_S12x128x18944_S_d0_1_2 : S12x128x18944.ReducesTo [0, 1, 2] S_
  reducesTo_S18944_S_d0 : S18944.ReducesTo [0] S_

variable [Facts]

def fn_part1 {F : FTy → Type} [FloatOps F] (main_arg1 : FVec F S12x128x18944 .bf16) (main_v15 : IVec S_ 1) (main_v16 : FVec F S12x128x18944 .bf16) : IVec S_ 1 :=
  let main_cst_5 : FVec F S_ .bf16 := constant S_ .bf16 0xFF80#16
  let main_v17 : FVec F S18944 .bf16 := (fun x v => Host.reduce FloatOps.maximumf x v reducesTo_S12x128x18944_S18944_d0_1 h_S_) main_v16 main_cst_5
  let main_v18 : FVec F S18944 .f32 := (extf .f32 · bitsLt_bf16_f32) main_v17
  let main_cst_6 : FVec F S_ .f32 := constant S_ .f32 0x37924925#32
  let main_v19 : FVec F S18944 .f32 := broadcastInDim S18944 ![] bcast_S_S18944 main_cst_6
  let main_v20 : FVec F S18944 .f32 := mulf main_v18 main_v19
  let main_v21 : FVec F S12x128x18944 .bf16 := Host.absf main_arg1
  let main_cst_7 : FVec F S_ .bf16 := constant S_ .bf16 0x7F7F#16
  let main_v22 : FVec F S12x128x18944 .bf16 := broadcastInDim S12x128x18944 ![] bcast_S_S12x128x18944 main_cst_7
  let main_v23 : IVec S12x128x18944 1 := cmpf .ole main_v21 main_v22
  let main_c_8 : IVec S_ 1 := constantI S_ 1 1#1
  let main_v24 : IVec S_ 1 := (fun x v => Host.reduce IntOp.andi x v reducesTo_S12x128x18944_S_d0_1_2 h_S_) main_v23 main_c_8
  let main_cst_9 : FVec F S_ .f32 := constant S_ .f32 0x00000000#32
  let main_v25 : FVec F S18944 .f32 := broadcastInDim S18944 ![] bcast_S_S18944 main_cst_9
  let main_v26 : IVec S18944 1 := cmpf .oeq main_v20 main_v25
  let main_cst_10 : FVec F S_ .f32 := constant S_ .f32 0x00800000#32
  let main_v27 : FVec F S18944 .f32 := broadcastInDim S18944 ![] bcast_S_S18944 main_cst_10
  let main_v28 : IVec S18944 1 := cmpf .oge main_v20 main_v27
  let main_v29 : IVec S18944 1 := ori main_v26 main_v28
  let main_c_11 : IVec S_ 1 := constantI S_ 1 1#1
  let main_v30 : IVec S_ 1 := (fun x v => Host.reduce IntOp.andi x v reducesTo_S18944_S_d0 h_S_) main_v29 main_c_11
  let main_v31 : IVec S_ 1 := andi main_v24 main_v30
  let main_v32 : IVec S_ 1 := andi main_v15 main_v31
  main_v32

def fn {F : FTy → Type} [FloatOps F] (main_arg0 : FVec F S12x128x3584 .bf16) (main_arg1 : FVec F S12x128x18944 .bf16) (main_arg2 : FVec F S18944x3584 .f32) (main_arg3 : FVec F S18944 .f32) : IVec S_ 1 :=
  let main_v0 : FVec F S12x128x3584 .bf16 := Host.absf main_arg0
  let main_cst : FVec F S_ .bf16 := constant S_ .bf16 0xFF80#16
  let main_v1 : FVec F S3584 .bf16 := (fun x v => Host.reduce FloatOps.maximumf x v reducesTo_S12x128x3584_S3584_d0_1 h_S_) main_v0 main_cst
  let main_v2 : FVec F S3584 .f32 := (extf .f32 · bitsLt_bf16_f32) main_v1
  let main_cst_0 : FVec F S_ .f32 := constant S_ .f32 0x3B124925#32
  let main_v3 : FVec F S3584 .f32 := broadcastInDim S3584 ![] bcast_S_S3584 main_cst_0
  let main_v4 : FVec F S3584 .f32 := mulf main_v2 main_v3
  let main_v5 : FVec F S12x128x3584 .bf16 := Host.absf main_arg0
  let main_cst_1 : FVec F S_ .bf16 := constant S_ .bf16 0x7F7F#16
  let main_v6 : FVec F S12x128x3584 .bf16 := broadcastInDim S12x128x3584 ![] bcast_S_S12x128x3584 main_cst_1
  let main_v7 : IVec S12x128x3584 1 := cmpf .ole main_v5 main_v6
  let main_c : IVec S_ 1 := constantI S_ 1 1#1
  let main_v8 : IVec S_ 1 := (fun x v => Host.reduce IntOp.andi x v reducesTo_S12x128x3584_S_d0_1_2 h_S_) main_v7 main_c
  let main_cst_2 : FVec F S_ .f32 := constant S_ .f32 0x00000000#32
  let main_v9 : FVec F S3584 .f32 := broadcastInDim S3584 ![] bcast_S_S3584 main_cst_2
  let main_v10 : IVec S3584 1 := cmpf .oeq main_v4 main_v9
  let main_cst_3 : FVec F S_ .f32 := constant S_ .f32 0x00800000#32
  let main_v11 : FVec F S3584 .f32 := broadcastInDim S3584 ![] bcast_S_S3584 main_cst_3
  let main_v12 : IVec S3584 1 := cmpf .oge main_v4 main_v11
  let main_v13 : IVec S3584 1 := ori main_v10 main_v12
  let main_c_4 : IVec S_ 1 := constantI S_ 1 1#1
  let main_v14 : IVec S_ 1 := (fun x v => Host.reduce IntOp.andi x v reducesTo_S3584_S_d0 h_S_) main_v13 main_c_4
  let main_v15 : IVec S_ 1 := andi main_v8 main_v14
  let main_v16 : FVec F S12x128x18944 .bf16 := Host.absf main_arg1
  fn_part1 (F := F) main_arg1 main_v15 main_v16
-- ==== Kernel.lean ====
abbrev S12x128x3584 : Shape := ⟨3, ![12, 128, 3584]⟩
abbrev S12x128x18944 : Shape := ⟨3, ![12, 128, 18944]⟩
abbrev S18944x3584 : Shape := ⟨2, ![18944, 3584]⟩
abbrev S18944 : Shape := ⟨1, ![18944]⟩
abbrev S1536x3584 : Shape := ⟨2, ![1536, 3584]⟩
abbrev S1x3584 : Shape := ⟨2, ![1, 3584]⟩
abbrev S1536x512 : Shape := ⟨2, ![1536, 512]⟩
abbrev S1x512 : Shape := ⟨2, ![1, 512]⟩
abbrev S512 : Shape := ⟨1, ![512]⟩
abbrev S256x128 : Shape := ⟨2, ![256, 128]⟩
abbrev S_ : Shape := ⟨0, ![]⟩
abbrev S1536x18944 : Shape := ⟨2, ![1536, 18944]⟩
abbrev S74x1x256 : Shape := ⟨3, ![74, 1, 256]⟩
abbrev S18944x1792 : Shape := ⟨2, ![18944, 1792]⟩
abbrev S1536x256 : Shape := ⟨2, ![1536, 256]⟩
abbrev S256x3584 : Shape := ⟨2, ![256, 3584]⟩
abbrev S1x1x256 : Shape := ⟨3, ![1, 1, 256]⟩
abbrev S256x1792 : Shape := ⟨2, ![256, 1792]⟩
abbrev S256x1536 : Shape := ⟨2, ![256, 1536]⟩
abbrev S256 : Shape := ⟨1, ![256]⟩
abbrev S1x256 : Shape := ⟨2, ![1, 256]⟩
abbrev S1x128 : Shape := ⟨2, ![1, 128]⟩
abbrev S128x128 : Shape := ⟨2, ![128, 128]⟩
abbrev S256x256 : Shape := ⟨2, ![256, 256]⟩
abbrev S128x256 : Shape := ⟨2, ![128, 256]⟩
abbrev S3584 : Shape := ⟨1, ![3584]⟩

abbrev nBuf : Space → Nat
  | .hbm => 73
  | .vmem => 26
  | .smem => 0
  | _ => 0

abbrev bufTy : (tb : Table) → Fin (tcTables nBuf tb) → BufTy
  | .hbm, ⟨0, _⟩ => ⟨S12x128x3584, .bf16⟩
  | .hbm, ⟨1, _⟩ => ⟨S12x128x18944, .bf16⟩
  | .hbm, ⟨2, _⟩ => ⟨S18944x3584, .f32⟩
  | .hbm, ⟨3, _⟩ => ⟨S18944, .f32⟩
  | .hbm, ⟨4, _⟩ => ⟨S1536x3584, .bf16⟩
  | .hbm, ⟨5, _⟩ => ⟨S1536x3584, .fp8e4m3⟩
  | .hbm, ⟨6, _⟩ => ⟨S1x3584, .f32⟩
  | .hbm, ⟨7, _⟩ => ⟨S256x128, .i32⟩
  | .hbm, ⟨8, _⟩ => ⟨S256x128, .i32⟩
  | .hbm, ⟨9, _⟩ => ⟨S_, .i32⟩
  | .hbm, ⟨10, _⟩ => ⟨S_, .i32⟩
  | .hbm, ⟨11, _⟩ => ⟨S256x128, .i32⟩
  | .hbm, ⟨12, _⟩ => ⟨S256x128, .i32⟩
  | .hbm, ⟨13, _⟩ => ⟨S256x128, .i32⟩
  | .hbm, ⟨14, _⟩ => ⟨S_, .i32⟩
  | .hbm, ⟨15, _⟩ => ⟨S256x128, .i32⟩
  | .hbm, ⟨16, _⟩ => ⟨S256x128, .i1⟩
  | .hbm, ⟨17, _⟩ => ⟨S256x128, .i32⟩
  | .hbm, ⟨18, _⟩ => ⟨S256x128, .i32⟩
  | .hbm, ⟨19, _⟩ => ⟨S_, .i32⟩
  | .hbm, ⟨20, _⟩ => ⟨S256x128, .i32⟩
  | .hbm, ⟨21, _⟩ => ⟨S256x128, .i1⟩
  | .hbm, ⟨22, _⟩ => ⟨S256x128, .i1⟩
  | .hbm, ⟨23, _⟩ => ⟨S_, .i32⟩
  | .hbm, ⟨24, _⟩ => ⟨S256x128, .i32⟩
  | .hbm, ⟨25, _⟩ => ⟨S256x128, .i32⟩
  | .hbm, ⟨26, _⟩ => ⟨S256x128, .i32⟩
  | .hbm, ⟨27, _⟩ => ⟨S256x128, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S256x128, .i32⟩
  | .hbm, ⟨35, _⟩ => ⟨S256x128, .i32⟩
  | .hbm, ⟨36, _⟩ => ⟨S_, .i32⟩
  | .hbm, ⟨37, _⟩ => ⟨S256x128, .i32⟩
  | .hbm, ⟨38, _⟩ => ⟨S256x128, .i1⟩
  | .hbm, ⟨39, _⟩ => ⟨S_, .i32⟩
  | .hbm, ⟨40, _⟩ => ⟨S256x128, .i32⟩
  | .hbm, ⟨41, _⟩ => ⟨S256x128, .i1⟩
  | .hbm, ⟨42, _⟩ => ⟨S_, .i32⟩
  | .hbm, ⟨43, _⟩ => ⟨S_, .i1⟩
  | .hbm, ⟨44, _⟩ => ⟨S256x128, .i1⟩
  | .hbm, ⟨45, _⟩ => ⟨S256x128, .i1⟩
  | .hbm, ⟨46, _⟩ => ⟨S256x128, .i1⟩
  | .hbm, ⟨47, _⟩ => ⟨S256x128, .i32⟩
  | .hbm, ⟨48, _⟩ => ⟨S256x128, .i32⟩
  | .hbm, ⟨49, _⟩ => ⟨S256x128, .i32⟩
  | .hbm, ⟨50, _⟩ => ⟨S_, .i32⟩
  | .hbm, ⟨51, _⟩ => ⟨S256x128, .i32⟩
  | .hbm, ⟨52, _⟩ => ⟨S256x128, .i32⟩
  | .hbm, ⟨53, _⟩ => ⟨S_, .i32⟩
  | .hbm, ⟨54, _⟩ => ⟨S256x128, .i32⟩
  | .hbm, ⟨55, _⟩ => ⟨S256x128, .i32⟩
  | .hbm, ⟨56, _⟩ => ⟨S_, .i32⟩
  | .hbm, ⟨57, _⟩ => ⟨S_, .i32⟩
  | .hbm, ⟨58, _⟩ => ⟨S256x128, .i32⟩
  | .hbm, ⟨59, _⟩ => ⟨S256x128, .i32⟩
  | .hbm, ⟨60, _⟩ => ⟨S256x128, .bf16⟩
  | .hbm, ⟨61, _⟩ => ⟨S1536x18944, .bf16⟩
  | .hbm, ⟨62, _⟩ => ⟨S74x1x256, .f32⟩
  | .hbm, ⟨63, _⟩ => ⟨S18944x3584, .f32⟩
  | .hbm, ⟨64, _⟩ => ⟨S74x1x256, .f32⟩
  | .hbm, ⟨65, _⟩ => ⟨S1536x18944, .fp8e5m2⟩
  | .hbm, ⟨66, _⟩ => ⟨S74x1x256, .f32⟩
  | .hbm, ⟨67, _⟩ => ⟨S18944x1792, .i8⟩
  | .hbm, ⟨68, _⟩ => ⟨S18944, .f32⟩
  | .hbm, ⟨69, _⟩ => ⟨S12x128x3584, .fp8e4m3⟩
  | .hbm, ⟨70, _⟩ => ⟨S3584, .f32⟩
  | .hbm, ⟨71, _⟩ => ⟨S12x128x18944, .fp8e5m2⟩
  | .hbm, ⟨72, _⟩ => ⟨S18944, .f32⟩
  | .local _ .vmem, ⟨0, _⟩ => ⟨S1536x512, .bf16⟩
  | .local _ .vmem, ⟨1, _⟩ => ⟨S1536x512, .bf16⟩
  | .local _ .vmem, ⟨2, _⟩ => ⟨S1536x512, .fp8e4m3⟩
  | .local _ .vmem, ⟨3, _⟩ => ⟨S1536x512, .fp8e4m3⟩
  | .local _ .vmem, ⟨4, _⟩ => ⟨S1x512, .f32⟩
  | .local _ .vmem, ⟨5, _⟩ => ⟨S1x512, .f32⟩
  | .local _ .vmem, ⟨6, _⟩ => ⟨S1536x256, .bf16⟩
  | .local _ .vmem, ⟨7, _⟩ => ⟨S1536x256, .bf16⟩
  | .local _ .vmem, ⟨8, _⟩ => ⟨S256x3584, .f32⟩
  | .local _ .vmem, ⟨9, _⟩ => ⟨S256x3584, .f32⟩
  | .local _ .vmem, ⟨10, _⟩ => ⟨S1x1x256, .f32⟩
  | .local _ .vmem, ⟨11, _⟩ => ⟨S1x1x256, .f32⟩
  | .local _ .vmem, ⟨12, _⟩ => ⟨S1536x3584, .fp8e4m3⟩
  | .local _ .vmem, ⟨13, _⟩ => ⟨S1x3584, .f32⟩
  | .local _ .vmem, ⟨14, _⟩ => ⟨S256x128, .bf16⟩
  | .local _ .vmem, ⟨15, _⟩ => ⟨S256x3584, .f32⟩
  | .local _ .vmem, ⟨16, _⟩ => ⟨S256x3584, .f32⟩
  | .local _ .vmem, ⟨17, _⟩ => ⟨S1x1x256, .f32⟩
  | .local _ .vmem, ⟨18, _⟩ => ⟨S1x1x256, .f32⟩
  | .local _ .vmem, ⟨19, _⟩ => ⟨S1536x256, .fp8e5m2⟩
  | .local _ .vmem, ⟨20, _⟩ => ⟨S1536x256, .fp8e5m2⟩
  | .local _ .vmem, ⟨21, _⟩ => ⟨S1x1x256, .f32⟩
  | .local _ .vmem, ⟨22, _⟩ => ⟨S1x1x256, .f32⟩
  | .local _ .vmem, ⟨23, _⟩ => ⟨S256x1792, .i8⟩
  | .local _ .vmem, ⟨24, _⟩ => ⟨S256x1792, .i8⟩
  | .local _ .vmem, ⟨25, _⟩ => ⟨S256x1536, .fp8e5m2⟩
  | _, _ => ⟨S12x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v6 : Ref sig .tc := ⟨.hbm, 49, rfl⟩
abbrev main_c_1 : Ref sig .tc := ⟨.hbm, 50, rfl⟩
abbrev main_v7 : Ref sig .tc := ⟨.hbm, 51, rfl⟩
abbrev main_v8 : Ref sig .tc := ⟨.hbm, 52, rfl⟩
abbrev main_c_2 : Ref sig .tc := ⟨.hbm, 53, rfl⟩
abbrev main_v9 : Ref sig .tc := ⟨.hbm, 54, rfl⟩
abbrev main_v10 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15_0 : Ref sig .tc := ⟨.hbm, 63, rfl⟩
abbrev main_v15_1 : Ref sig .tc := ⟨.hbm, 64, rfl⟩
abbrev main_v15_2 : Ref sig .tc := ⟨.hbm, 65, rfl⟩
abbrev main_v15_3 : Ref sig .tc := ⟨.hbm, 66, rfl⟩
abbrev main_v15_4 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1536x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3584 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1536x3584 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3584 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x3584 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1536x256 .fp8e5m2 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1792 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S12x128x3584 : Shape := ⟨3, ![12, 128, 3584]⟩
abbrev S12x128x18944 : Shape := ⟨3, ![12, 128, 18944]⟩
abbrev S18944x3584 : Shape := ⟨2, ![18944, 3584]⟩
abbrev S18944 : Shape := ⟨1, ![18944]⟩
abbrev S3584 : Shape := ⟨1, ![3584]⟩
abbrev S18944x1792 : Shape := ⟨2, ![18944, 1792]⟩
abbrev S1x1x3584 : Shape := ⟨3, ![1, 1, 3584]⟩
abbrev S1x1x18944 : Shape := ⟨3, ![1, 1, 18944]⟩
abbrev S1536x18944 : Shape := ⟨2, ![1536, 18944]⟩
abbrev S1536x3584 : Shape := ⟨2, ![1536, 3584]⟩
abbrev S18944x1 : Shape := ⟨2, ![18944, 1]⟩
abbrev S1x3584 : Shape := ⟨2, ![1, 3584]⟩
abbrev S18944x1792x2 : Shape := ⟨3, ![18944, 1792, 2]⟩
abbrev S18944x1792x1 : Shape := ⟨3, ![18944, 1792, 1]⟩

abbrev nBuf : Space → Nat
  | .hbm => 11
  | .vmem => 11
  | .smem => 0
  | _ => 0

abbrev bufTy : (tb : Table) → Fin (tcTables nBuf tb) → BufTy
  | .hbm, ⟨0, _⟩ => ⟨S12x128x3584, .bf16⟩
  | .hbm, ⟨1, _⟩ => ⟨S12x128x18944, .bf16⟩
  | .hbm, ⟨2, _⟩ => ⟨S18944x3584, .f32⟩
  | .hbm, ⟨3, _⟩ => ⟨S18944, .f32⟩
  | .hbm, ⟨4, _⟩ => ⟨S18944x3584, .f32⟩
  | .hbm, ⟨5, _⟩ => ⟨S18944, .f32⟩
  | .hbm, ⟨6, _⟩ => ⟨S12x128x3584, .fp8e4m3⟩
  | .hbm, ⟨7, _⟩ => ⟨S3584, .f32⟩
  | .hbm, ⟨8, _⟩ => ⟨S12x128x18944, .fp8e5m2⟩
  | .hbm, ⟨9, _⟩ => ⟨S18944, .f32⟩
  | .hbm, ⟨10, _⟩ => ⟨S18944x1792, .i8⟩
  | .local _ .vmem, ⟨0, _⟩ => ⟨S12x128x3584, .bf16⟩
  | .local _ .vmem, ⟨1, _⟩ => ⟨S12x128x18944, .bf16⟩
  | .local _ .vmem, ⟨2, _⟩ => ⟨S18944x3584, .f32⟩
  | .local _ .vmem, ⟨3, _⟩ => ⟨S18944, .f32⟩
  | .local _ .vmem, ⟨4, _⟩ => ⟨S18944x3584, .f32⟩
  | .local _ .vmem, ⟨5, _⟩ => ⟨S18944, .f32⟩
  | .local _ .vmem, ⟨6, _⟩ => ⟨S12x128x3584, .fp8e4m3⟩
  | .local _ .vmem, ⟨7, _⟩ => ⟨S3584, .f32⟩
  | .local _ .vmem, ⟨8, _⟩ => ⟨S12x128x18944, .fp8e5m2⟩
  | .local _ .vmem, ⟨9, _⟩ => ⟨S18944, .f32⟩
  | .local _ .vmem, ⟨10, _⟩ => ⟨S18944x1792, .i8⟩
  | _, _ => ⟨S12x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x128x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128x18944 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18944 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18944x1792 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRun.lean ====
module

public import proofs.«01_k».proof.Proof.Gen.KernelIdeal.Frame

@[expose] public section

set_option maxRecDepth 16384

noncomputable section

namespace Cert.KernelIdeal.Run
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unification, which takes unfolding plain definitions
set_option backward.isDefEq.respectTransparency.types false in
/-- Every run of the kernel program ends with each of the seven results at the last boundary's contents `W11`
    and the four arguments as launched. -/
theorem run : θ_run defs (onTc (τ := τ) (main (F := F))) ⟨m, fun _ => 0, ρ⟩ (fun r => ∀ c : Dev nD,
      r.2.mem ((c.tc : Thread nD τ).loc main_v15_0) = W11 m ρ c (Proc.devRef .tc main_v15_0)
      ∧ r.2.mem ((c.tc : Thread nD τ).loc main_v16) = W11 m ρ c (Proc.devRef .tc main_v16)
      ∧ r.2.mem ((c.tc : Thread nD τ).loc main_v17) = W11 m ρ c (Proc.devRef .tc main_v17)
      ∧ r.2.mem ((c.tc : Thread nD τ).loc main_v18) = W11 m ρ c (Proc.devRef .tc main_v18)
      ∧ r.2.mem ((c.tc : Thread nD τ).loc main_v19) = W11 m ρ c (Proc.devRef .tc main_v19)
      ∧ r.2.mem ((c.tc : Thread nD τ).loc main_v20) = W11 m ρ c (Proc.devRef .tc main_v20)
      ∧ r.2.mem ((c.tc : Thread nD τ).loc main_v15_4) = W11 m ρ c (Proc.devRef .tc main_v15_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c => ⟨
      h c _ (mem_uc main_v15_0 (by decide)),
      h c _ (mem_uc main_v16 (by decide)),
      h c _ (mem_uc main_v17 (by decide)),
      h c _ (mem_uc main_v18 (by decide)),
      h c _ (mem_uc main_v19 (by decide)),
      h c _ (mem_uc main_v20 (by decide)),
      h c _ (mem_uc main_v15_4 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c)⟩)

end Cert.KernelIdeal.Run

end
-- ==== Proof.Host.lean ====
module

public import proofs.«01_k».proof.Proof.Gen.KernelIdeal.Frame
public import Idealize.ShloMosaic.Lib.StableHlo.ReadAt
public import Idealize.ShloMosaic.Lib.Pointwise

@[expose] public section

set_option maxRecDepth 16384

noncomputable section

/-! The arrays the host forms before and between the kernels, at an index. -/

namespace Cert.KernelIdeal.Run
open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first kernel reads `x` with its two leading axes as one. -/
theorem v0_at (c : Dev nD) (k : Fin 1536) (l : Fin 3584) :
    W1 m ρ c (Proc.devRef .tc main_v0) (ix2 k l)
      = m ((c : Thread nD τ).loc main_arg0) (ix3 (⟨k.val / 128, by omega⟩ : Fin 12) (⟨k.val % 128, by omega⟩ : Fin 128) l) := by
  have e := W0_args m ρ c main_arg0 (by decide)
  rw [← e]
  unfold W1
  generalize W0 m ρ c = V
  unfold hostOps0
  after_reads_at

/-- The second kernel reads `dy` with its two leading axes as one. -/
theorem v13_at (c : Dev nD) (k : Fin 1536) (l : Fin 18944) :
    W9 m ρ c (Proc.devRef .tc main_v13) (ix2 k l)
      = m ((c : Thread nD τ).loc main_arg1) (ix3 (⟨k.val / 128, by omega⟩ : Fin 12) (⟨k.val % 128, by omega⟩ : Fin 128) l) := by
  have e := W8_args m ρ c main_arg1 (by decide)
  rw [← e]
  unfold W9
  generalize W8 m ρ c = V
  unfold hostOps1_6
  after_reads_at

/-- The second kernel reads the row scales in 74 groups of 256. -/
theorem v14_at (c : Dev nD) (t : Fin 74) (z : Fin 1) (r : Fin 256) :
    W9 m ρ c (Proc.devRef .tc main_v14) (ix3 t z r)
      = m ((c : Thread nD τ).loc main_arg3) (ix1 (⟨t.val * 256 + r.val, by omega⟩ : Fin 18944)) := by
  have e := W8_args m ρ c main_arg3 (by decide)
  rw [← e]
  unfold W9
  generalize W8 m ρ c = V
  unfold hostOps1_6
  after_reads_at

theorem v16_at (c : Dev nD) (r : Fin 18944) :
    W11 m ρ c (Proc.devRef .tc main_v16) (ix1 r)
      = W10 m ρ c (Proc.devRef .tc main_v15_1) (ix3 (⟨r.val / 256, by omega⟩ : Fin 74) (0 : Fin 1) (⟨r.val % 256, by omega⟩ : Fin 256)) := by
  unfold W11
  generalize W10 m ρ c = V
  unfold hostOps2
  after_reads_at

theorem v17_at (c : Dev nD) (i : Fin 12) (j : Fin 128) (l : Fin 3584) :
    W11 m ρ c (Proc.devRef .tc main_v17) (ix3 i j l)
      = W10 m ρ c (Proc.devRef .tc main_v1_0) (ix2 (⟨i.val * 128 + j.val, by omega⟩ : Fin 1536) l) := by
  unfold W11
  generalize W10 m ρ c = V
  unfold hostOps2
  after_reads_at

theorem v18_at (c : Dev nD) (l : Fin 3584) :
    W11 m ρ c (Proc.devRef .tc main_v18) (ix1 l)
      = W10 m ρ c (Proc.devRef .tc main_v1_1) (ix2 (0 : Fin 1) l) := by
  unfold W11
  generalize W10 m ρ c = V
  unfold hostOps2
  after_reads_at

theorem v19_at (c : Dev nD) (i : Fin 12) (j : Fin 128) (l : Fin 18944) :
    W11 m ρ c (Proc.devRef .tc main_v19) (ix3 i j l)
      = W10 m ρ c (Proc.devRef .tc main_v15_2) (ix2 (⟨i.val * 128 + j.val, by omega⟩ : Fin 1536) l) := by
  unfold W11
  generalize W10 m ρ c = V
  unfold hostOps2
  after_reads_at

theorem v20_at (c : Dev nD) (r : Fin 18944) :
    W11 m ρ c (Proc.devRef .tc main_v20) (ix1 r)
      = W10 m ρ c (Proc.devRef .tc main_v15_3) (ix3 (⟨r.val / 256, by omega⟩ : Fin 74) (0 : Fin 1) (⟨r.val % 256, by omega⟩ : Fin 256)) := by
  unfold W11
  generalize W10 m ρ c = V
  unfold hostOps2
  after_reads_at

/-- The packing matrix: column `l` has 1 in row `2 l` and 16 in row `2 l + 1`. -/
theorem v12_at (c : Dev nD) (i : Fin 256) (l : Fin 128) :
    W9 m ρ c (Proc.devRef .tc main_v12) (ix2 i l)
      = if i.val / 2 = l.val then (if i.val % 2 = 0 then (1 : EReal) else 16) else 0 := by
  unfold W9 W8 W7 W6 W5 W4 W3
  generalize W2 m ρ c = V
  unfold hostOps1_6 hostOps1_5 hostOps1_4 hostOps1_3 hostOps1_2 hostOps1_1 hostOps1
  after_reads_at
  refine (congrArg (FloatOps.sitofp (F := Ideal) .bf16)
    (?_ : _ = if i.val / 2 = l.val then (if i.val % 2 = 0 then 1#32 else 16#32) else 0#32)).trans ?_
  · clear V
    revert l
    revert i
    decide +kernel
  · show (((if i.val / 2 = l.val then (if i.val % 2 = 0 then 1#32 else 16#32) else 0#32 : BitVec 32).toInt : ℝ) : EReal) = _
    split_ifs
    · rw [show (1#32).toInt = 1 by decide]; norm_num
    · rw [show (16#32).toInt = 16 by decide]; norm_cast
    · rw [show (0#32).toInt = 0 by decide]; norm_num

end Cert.KernelIdeal.Run
end
-- ==== Proof.Places.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

/-! Where the kernels' blocks lie in their arrays, and the input blocks at an index. -/

namespace Cert.KernelIdeal.Run
open Idealize.ShloMosaic Idealize.ShloMosaic.TcCoe Idealize.SL.Sem
open Cert.KernelIdeal Cert.KernelIdeal.Gen

theorem N0 : cfg0.N = 7 := by decide +kernel
theorem N1 : cfg1.N = 74 := by decide +kernel
theorem lt0 (t : Fin cfg0.N) : t.val < 7 := lt_of_lt_of_eq t.isLt N0
theorem lt1 (t : Fin cfg1.N) : t.val < 74 := lt_of_lt_of_eq t.isLt N1

theorem e00 : ∀ t : Fin cfg0.N, win0_0.index t = ![0, t.val] := (by decide +kernel : ∀ t : Fin grid0.N, win0_0.index t = ![0, t.val])
theorem e01 : ∀ t : Fin cfg0.N, win0_1.index t = ![0, t.val] := (by decide +kernel : ∀ t : Fin grid0.N, win0_1.index t = ![0, t.val])
theorem e02 : ∀ t : Fin cfg0.N, win0_2.index t = ![0, t.val] := (by decide +kernel : ∀ t : Fin grid0.N, win0_2.index t = ![0, t.val])
theorem e10 : ∀ t : Fin cfg1.N, win1_0.index t = ![0, t.val] := (by decide +kernel : ∀ t : Fin grid1.N, win1_0.index t = ![0, t.val])
theorem e11 : ∀ t : Fin cfg1.N, win1_1.index t = ![t.val, 0] := (by decide +kernel : ∀ t : Fin grid1.N, win1_1.index t = ![t.val, 0])
theorem e12 : ∀ t : Fin cfg1.N, win1_2.index t = ![t.val, 0, 0] := (by decide +kernel : ∀ t : Fin grid1.N, win1_2.index t = ![t.val, 0, 0])
theorem e13 : ∀ t : Fin cfg1.N, win1_3.index t = ![0, 0] := (by decide +kernel : ∀ t : Fin grid1.N, win1_3.index t = ![0, 0])
theorem e14 : ∀ t : Fin cfg1.N, win1_4.index t = ![0, 0] := (by decide +kernel : ∀ t : Fin grid1.N, win1_4.index t = ![0, 0])
theorem e15 : ∀ t : Fin cfg1.N, win1_5.index t = ![0, 0] := (by decide +kernel : ∀ t : Fin grid1.N, win1_5.index t = ![0, 0])
theorem e16 : ∀ t : Fin cfg1.N, win1_6.index t = ![t.val, 0] := (by decide +kernel : ∀ t : Fin grid1.N, win1_6.index t = ![t.val, 0])
theorem e17 : ∀ t : Fin cfg1.N, win1_7.index t = ![t.val, 0, 0] := (by decide +kernel : ∀ t : Fin grid1.N, win1_7.index t = ![t.val, 0, 0])
theorem e18 : ∀ t : Fin cfg1.N, win1_8.index t = ![0, t.val] := (by decide +kernel : ∀ t : Fin grid1.N, win1_8.index t = ![0, t.val])
theorem e19 : ∀ t : Fin cfg1.N, win1_9.index t = ![t.val, 0, 0] := (by decide +kernel : ∀ t : Fin grid1.N, win1_9.index t = ![t.val, 0, 0])
theorem e1a : ∀ t : Fin cfg1.N, win1_10.index t = ![t.val, 0] := (by decide +kernel : ∀ t : Fin grid1.N, win1_10.index t = ![t.val, 0])

variable (V : (c : Dev nD) → (b : Ref sig .tc) → Buf (Elt Ideal) ((c : Thread nD τ).loc b))

theorem in00 (c : Dev nD) (t : Fin cfg0.N) (k : Fin 1536) (l : Fin 512) :
    iblk0 V c 0 t (ix2 k l) = V c main_v0 (ix2 k (⟨t.val * 512 + l.val, by have := lt0 t; omega⟩ : Fin 3584)) := by
  blk_simp [iblk0]
  refine congrArg (V c main_v0) ?_
  blk_ext [e00 t]
theorem in10 (c : Dev nD) (t : Fin cfg1.N) (k : Fin 1536) (l : Fin 256) :
    iblk1 V c 0 t (ix2 k l) = V c main_v13 (ix2 k (⟨t.val * 256 + l.val, by have := lt1 t; omega⟩ : Fin 18944)) := by
  blk_simp [iblk1]
  refine congrArg (V c main_v13) ?_
  blk_ext [e10 t]
theorem in11 (c : Dev nD) (t : Fin cfg1.N) (r : Fin 256) (j : Fin 3584) :
    iblk1 V c 1 t (ix2 r j) = V c main_arg2 (ix2 (⟨t.val * 256 + r.val, by have := lt1 t; omega⟩ : Fin 18944) j) := by
  blk_simp [iblk1]
  refine congrArg (V c main_arg2) ?_
  blk_ext [e11 t]
theorem in12 (c : Dev nD) (t : Fin cfg1.N) (z z' : Fin 1) (r : Fin 256) :
    iblk1 V c 2 t (ix3 z z' r) = V c main_v14 (ix3 (⟨t.val, lt1 t⟩ : Fin 74) (0 : Fin 1) r) := by
  blk_simp [iblk1]
  refine congrArg (V c main_v14) ?_
  have := z.isLt; have := z'.isLt
  blk_ext [e12 t]
theorem in13 (c : Dev nD) (t : Fin cfg1.N) (k : Fin 1536) (j : Fin 3584) :
    iblk1 V c 3 t (ix2 k j) = V c main_v1_0 (ix2 k j) := by
  blk_simp [iblk1]
  refine congrArg (V c main_v1_0) ?_
  blk_ext [e13 t]
theorem in14 (c : Dev nD) (t : Fin cfg1.N) (z : Fin 1) (j : Fin 3584) :
    iblk1 V c 4 t (ix2 z j) = V c main_v1_1 (ix2 z j) := by
  blk_simp [iblk1]
  refine congrArg (V c main_v1_1) ?_
  blk_ext [e14 t]
theorem in15 (c : Dev nD) (t : Fin cfg1.N) (i : Fin 256) (l : Fin 128) :
    iblk1 V c 5 t (ix2 i l) = V c main_v12 (ix2 i l) := by
  blk_simp [iblk1]
  refine congrArg (V c main_v12) ?_
  blk_ext [e15 t]

theorem out01 (t : Fin cfg0.N) (k : Fin 1536) (l : Fin 512) :
    (win0_1.blk t).view.emb (ix2 k l) = ix2 k (⟨t.val * 512 + l.val, by have := lt0 t; omega⟩ : Fin 3584) := by
  blk_ext [e01 t]
theorem out02 (t : Fin cfg0.N) (z : Fin 1) (l : Fin 512) :
    (win0_2.blk t).view.emb (ix2 z l) = ix2 z (⟨t.val * 512 + l.val, by have := lt0 t; omega⟩ : Fin 3584) := by
  blk_ext [e02 t]
theorem out16 (t : Fin cfg1.N) (r : Fin 256) (j : Fin 3584) :
    (win1_6.blk t).view.emb (ix2 r j) = ix2 (⟨t.val * 256 + r.val, by have := lt1 t; omega⟩ : Fin 18944) j := by
  blk_ext [e16 t]
theorem out17 (t : Fin cfg1.N) (z z' : Fin 1) (r : Fin 256) :
    (win1_7.blk t).view.emb (ix3 z z' r) = ix3 (⟨t.val, lt1 t⟩ : Fin 74) (0 : Fin 1) r := by
  have := z.isLt; have := z'.isLt
  blk_ext [e17 t]
theorem out18 (t : Fin cfg1.N) (k : Fin 1536) (l : Fin 256) :
    (win1_8.blk t).view.emb (ix2 k l) = ix2 k (⟨t.val * 256 + l.val, by have := lt1 t; omega⟩ : Fin 18944) := by
  blk_ext [e18 t]
theorem out19 (t : Fin cfg1.N) (z z' : Fin 1) (r : Fin 256) :
    (win1_9.blk t).view.emb (ix3 z z' r) = ix3 (⟨t.val, lt1 t⟩ : Fin 74) (0 : Fin 1) r := by
  have := z.isLt; have := z'.isLt
  blk_ext [e19 t]
theorem out1a (t : Fin cfg1.N) (r : Fin 256) (j : Fin 1792) :
    (win1_10.blk t).view.emb (ix2 r j) = ix2 (⟨t.val * 256 + r.val, by have := lt1 t; omega⟩ : Fin 18944) j := by
  blk_ext [e1a t]

end Cert.KernelIdeal.Run
end
-- ==== Proof.Tiles.lean ====
module

public import proofs.«01_k».proof.Proof.Gen.KernelIdeal.Frame
public import Idealize.ShloMosaic.Lib.Pipeline.ValueKit
public import Idealize.ShloMosaic.Lib.Pointwise
public import Idealize.ShloMosaic.PureOps.Ideal

@[expose] public section

set_option maxRecDepth 16384

noncomputable section

/-! The second kernel's results at a grid point, as families over the column groups of 128 and the chunks of 256. -/

namespace Cert.KernelIdeal.Tiles
open Idealize.ShloMosaic Idealize.ShloMosaic.TcCoe Idealize.SL.Sem
open Cert.KernelIdeal Cert.KernelIdeal.Gen

/-- The column group `k` of 128 columns lies inside a block of 256 rows. -/
theorem inbW (k : Fin 28) : ∀ a, (![0, 128 * k.val] : Fin 2 → ℕ) a + (![256, 128] : Fin 2 → ℕ) a ≤ S256x3584.size a := by
  have := k.isLt; intro a; fin_cases a <;> simp [S256x3584] <;> omega

/-- The column group `k` lies inside the row of column scales. -/
theorem inbS (k : Fin 28) : ∀ a, (![0, 128 * k.val] : Fin 2 → ℕ) a + (![1, 128] : Fin 2 → ℕ) a ≤ S1x3584.size a := by
  have := k.isLt; intro a; fin_cases a <;> simp [S1x3584] <;> omega

/-- The chunk `j` of 256 columns lies inside the codes of `x`. -/
theorem inbX (j : Fin 14) : ∀ a, (![0, 256 * j.val] : Fin 2 → ℕ) a + (![1536, 256] : Fin 2 → ℕ) a ≤ S1536x3584.size a := by
  have := j.isLt; intro a; fin_cases a <;> simp [S1536x3584] <;> omega

/-- The byte group `j` of 128 columns lies inside the packed block. -/
theorem inbP (j : Fin 14) : ∀ a, (![0, 128 * j.val] : Fin 2 → ℕ) a + (![256, 128] : Fin 2 → ℕ) a ≤ S256x1792.size a := by
  have := j.isLt; intro a; fin_cases a <;> simp [S256x1792] <;> omega

section
variable (L : FVec Ideal S256x1536 .fp8e5m2) (Y S : FVec Ideal S256x128 .f32)
  (w : Vec Ideal S256x3584 .f32) (xq : Vec Ideal S1536x3584 .fp8e4m3) (sx : Vec Ideal S1x3584 .f32) (pk : Vec Ideal S256x128 .bf16)

/-- The weights of the column group `k`. -/
def wT (k : Fin 28) : Vec Ideal S256x128 .f32 := View.ld w (Rect.unit ![0, 128 * k.val] ![256, 128] (inbW k))
/-- The column scales of the group `k`. -/
def sxT (k : Fin 28) : Vec Ideal S1x128 .f32 := View.ld sx (Rect.unit ![0, 128 * k.val] ![1, 128] (inbS k))
/-- The codes of `x` of the chunk `j`. -/
def xqT (j : Fin 14) : Vec Ideal S1536x256 .fp8e4m3 := View.ld xq (Rect.unit ![0, 256 * j.val] ![1536, 256] (inbX j))
/-- The weights over their row scale. -/
def tV (k : Fin 28) : FVec Ideal S256x128 .f32 := divf (wT w k) S
/-- The same clipped to [-8, 7]. -/
def tC (k : Fin 28) : FVec Ideal S256x128 .f32 :=
  minimumf (broadcast S256x128 (Scalar.sitofp .f32 7#32)) (maximumf (broadcast S256x128 (Scalar.sitofp .f32 4294967288#32)) (tV S w k))
/-- The codes, as floats. -/
def tQ (k : Fin 28) : FVec Ideal S256x128 .f32 := roundeven (tC S w k)
/-- Whether the clip changed nothing. -/
def tIn (k : Fin 28) : IVec S256x128 1 := cmpf .oeq (tC S w k) (tV S w k)
/-- The product of the chunk `j`. -/
def tAcc (j : Fin 14) : FVec Ideal S256x256 .f32 :=
  matmul (φ₂ := .fp8e4m3) dot_S256x1536_S1536x256_S256x256_1_0_0_1_n_n none L (shapeCast S1536x256 (xqT xq j) shapeCasts_S1536x256_S1536x256)
    (constant S256x256 .f32 0x00000000#32)
/-- The left or the right half of a chunk. -/
def half (p : Fin 2) (a : FVec Ideal S256x256 .f32) : FVec Ideal S256x128 .f32 :=
  match p with
  | 0 => extractStridedSlice S256x128 ![0, 0] a slices_S256x256_o0_0_S256x128
  | 1 => extractStridedSlice S256x128 ![0, 128] a slices_S256x256_o0_128_S256x128
/-- The chunk of a column group. -/
abbrev chunk (k : Fin 28) : Fin 14 := ⟨k.val / 2, by omega⟩
/-- The half of its chunk a column group is. -/
abbrev side (k : Fin 28) : Fin 2 := ⟨k.val % 2, by omega⟩
/-- The product scaled back by rows and by columns. -/
def tD (k : Fin 28) : FVec Ideal S256x128 .f32 :=
  mulf (mulf (half (side k) (tAcc L xq (chunk k))) Y)
    (broadcastTo S256x128 (shapeCast S1x128 (sxT sx k) shapeCasts_S1x128_S1x128) broadcasts_S1x128_S256x128)
/-- The weight gradient of the group. -/
def tW (k : Fin 28) : FVec Ideal S256x128 .f32 :=
  select (tIn S w k) (tD L Y xq sx k) (broadcast S256x128 (Scalar.ofBits .f32 0x00000000#32))
/-- The factor of the scale's gradient. -/
def tF (k : Fin 28) : FVec Ideal S256x128 .f32 := select (tIn S w k) (subf (tQ S w k) (tV S w k)) (tQ S w k)
/-- The partial sum of the scale's gradient over the first `n` groups. -/
def part : ℕ → FVec Ideal S256x128 .f32
  | 0 => broadcast S256x128 (Scalar.ofBits .f32 0x00000000#32)
  | n + 1 => if h : n < 28 then addf (part n) (mulf (tF S w ⟨n, h⟩) (tD L Y xq sx ⟨n, h⟩)) else part n
/-- The packed bytes of the chunk `j`. -/
def tB (j : Fin 14) : IVec S256x128 8 :=
  trunci 8 (xori (fptosi 32 (addf (matmul (φ₂ := .bf16) dot_S256x256_S256x128_S256x128_1_0_0_1_n_n none
      (concatenate S256x256 1 [⟨S256x128, truncf .bf16 (tQ S w ⟨2 * j.val, by omega⟩) bitsLt_bf16_f32⟩,
        ⟨S256x128, truncf .bf16 (tQ S w ⟨2 * j.val + 1, by omega⟩) bitsLt_bf16_f32⟩] concatenates_S256x128_S256x128_S256x256_d1)
      (shapeCast S256x128 pk shapeCasts_S256x128_S256x128) (constant S256x128 .f32 0x00000000#32))
    (broadcast S256x128 (Scalar.ofBits .f32 0x43080000#32)))) (broadcast S256x128 136#32)) natLt_8_32
end

variable (V : (c : Dev nD) → (b : Idealize.ShloMosaic.Ref sig .tc) → Buf (Elt Ideal) ((c : Thread nD τ).loc b))

/-- The exponents of the point's columns of `dy`. -/
def ex (b : Vec Ideal S1536x256 .bf16) : IVec S1x256 32 := k1_pay6 (k1_pay4 b) (k1_pay5 b)
/-- The left operand of the products: the codes of `dy`, transposed. -/
def lhs (b : Vec Ideal S1536x256 .bf16) : FVec Ideal S256x1536 .fp8e5m2 :=
  k1_pay12 (k1_pay7 (k1_pay3 b) (k1_pay4 b) (k1_pay5 b)) k1_pay8

/-- The weight gradient's block is its 28 column groups. -/
theorem out_dw (c : Dev nD) (t : Fin cfg1.N) (y : S256x3584.Idx) :
    (outsAt1 V c t).1 y
      = View.canon (List.ofFn fun i : Fin 28 => (⟨Rect.unit ![0, 128 * (27 - i.val)] ![256, 128] (inbW ⟨27 - i.val, by omega⟩),
          tW (lhs (iblk1 V c 0 t)) (k1_pay13 (ex (iblk1 V c 0 t))) (k1_pay14 (iblk1 V c 2 t)) (iblk1 V c 1 t) (iblk1 V c 3 t)
            (iblk1 V c 4 t) ⟨27 - i.val, by omega⟩⟩ : View.Piece (Elt Ideal) S256x3584 .f32)) y := by
  unfold outsAt1
  frame_out
  rfl

/-- The packed codes' block is its 14 byte groups. -/
theorem out_qp (c : Dev nD) (t : Fin cfg1.N) (y : S256x1792.Idx) :
    (outsAt1 V c t).2.2.2.2 y
      = View.canon (List.ofFn fun i : Fin 14 => (⟨Rect.unit ![0, 128 * (13 - i.val)] ![256, 128] (inbP ⟨13 - i.val, by omega⟩),
          tB (k1_pay14 (iblk1 V c 2 t)) (iblk1 V c 1 t) (iblk1 V c 5 t) ⟨13 - i.val, by omega⟩⟩
            : View.Piece (Elt Ideal) S256x1792 .i8)) y := by
  unfold outsAt1
  frame_out
  rfl

/-- The scale gradient's block is the sum over the 28 groups' partial sums. -/
theorem out_ds (c : Dev nD) (t : Fin cfg1.N) (y : S1x1x256.Idx) :
    (outsAt1 V c t).2.1 y
      = k1_pay2 (part (lhs (iblk1 V c 0 t)) (k1_pay13 (ex (iblk1 V c 0 t))) (k1_pay14 (iblk1 V c 2 t)) (iblk1 V c 1 t)
          (iblk1 V c 3 t) (iblk1 V c 4 t) 28) y := by
  unfold outsAt1
  frame_out
  rfl

/-- The block of the codes of `dy`. -/
theorem out_dyq (c : Dev nD) (t : Fin cfg1.N) (y : S1536x256.Idx) :
    (outsAt1 V c t).2.2.1 y
      = k1_pay9 (k1_pay7 (k1_pay3 (iblk1 V c 0 t)) (k1_pay4 (iblk1 V c 0 t)) (k1_pay5 (iblk1 V c 0 t))) k1_pay8 y := by
  unfold outsAt1
  frame_out

/-- The block of the column scales of `dy`. -/
theorem out_sy (c : Dev nD) (t : Fin cfg1.N) (y : S1x1x256.Idx) :
    (outsAt1 V c t).2.2.2.1 y = k1_pay11 (F := Ideal) (ex (iblk1 V c 0 t)) y := by
  unfold outsAt1
  frame_out
  try rfl

end Cert.KernelIdeal.Tiles

end
-- ==== Proof.Scale.lean ====
module

public import Idealize.ShloMosaic.Lib.Pointwise
public import Idealize.ShloMosaic.PureOps.Ideal

@[expose] public section

set_option maxRecDepth 16384

noncomputable section

/-! The power-of-two scale of a quantiser, by the kernel's search over exponent fields and by the logarithm. -/

namespace Cert.Scale
open Idealize.ShloMosaic

/-- The word whose exponent field is `f`, and no other bit. -/
def fieldWord (f : BitVec 32) : BitVec 32 := IntOp.shli .vector f 23#32

/-- One step of the search: add `b` to the field unless the power it names exceeds `r`. -/
def step (r : EReal) (f b : BitVec 32) : BitVec 32 :=
  Scalar.select (Ideal.cmp .oge r (Ideal.ofBits .f32 (fieldWord (IntOp.addi f b)))) (IntOp.addi f b) f

/-- The exponent of the search's result: none for the field 0 or 255. -/
def expOf (f : BitVec 32) : BitVec 32 :=
  Scalar.select (IntOp.ori (IntOp.cmpi .eq f 0#32) (IntOp.cmpi .eq f 255#32)) 0#32 (IntOp.subi f 126#32)

/-- The search from the field 0, the bits from 128 down to 1. -/
def field (r : EReal) : BitVec 32 :=
  step r (step r (step r (step r (step r (step r (step r (step r 0#32 128#32) 64#32) 32#32) 16#32) 8#32) 4#32) 2#32) 1#32

/-- Two to the power of an exponent, by its word. -/
def pow2 (e : BitVec 32) : EReal := Ideal.ofBits .f32 (fieldWord (IntOp.addi e 127#32))

/-- The exponent as the mathematics states it: `⌊log₂ r⌋ + 1`, and 0 for zero. -/
def expLog (r : EReal) : EReal :=
  Scalar.select (Ideal.cmp .oeq r (Ideal.ofBits .f32 0#32)) (Ideal.ofBits .f32 0#32)
    (Ideal.liftRound Int.floor (Ideal.div (Ideal.log r) (Ideal.log (Ideal.ofBits .f32 0x40000000#32)))
      + Ideal.ofBits .f32 0x3F800000#32)

/-- The field word of `k` has the exponent bits `k`, no fraction and no sign. -/
theorem fieldWord_bits : ∀ k : Fin 256,
    ((fieldWord (BitVec.ofNat 32 k)).extractLsb' 23 8).toNat = k ∧ ((fieldWord (BitVec.ofNat 32 k)).extractLsb' 0 23).toNat = 0
      ∧ ((fieldWord (BitVec.ofNat 32 k)).extractLsb' 31 1 == 1#1) = false := by
  decide +kernel

/-- A field from 1 to 254 denotes two to the power `k - 127`. -/
theorem ofBits_field (k : ℕ) (h1 : 1 ≤ k) (h2 : k ≤ 254) :
    Ideal.ofBits .f32 (fieldWord (BitVec.ofNat 32 k)) = (((2 : ℝ) ^ ((k : ℤ) - 127) : ℝ) : EReal) := by
  obtain ⟨he, hf, hs⟩ := fieldWord_bits ⟨k, by omega⟩
  simp only at he hf hs
  simp only [Ideal.ofBits, Ideal.ieee]
  rw [he, hf, show 8 + 23 = 31 from rfl, hs]
  rw [if_neg (by omega), if_neg (by omega), EReal.coe_eq_coe_iff]
  rw [show ((k : ℤ) - (2 ^ (8 - 1) - 1) - ((23 : ℕ) : ℤ)) = ((k : ℤ) - 127) + (-23) from by norm_num; ring,
    zpow_add₀ (two_ne_zero)]
  generalize (2 : ℝ) ^ ((k : ℤ) - 127) = p
  norm_num
  ring

/-- The field 255 denotes the positive infinity. -/
theorem ofBits_field_top : Ideal.ofBits .f32 (fieldWord (BitVec.ofNat 32 255)) = ⊤ := by
  obtain ⟨he, hf, hs⟩ := fieldWord_bits ⟨255, by omega⟩
  simp only at he hf hs
  simp only [Ideal.ofBits, Ideal.ieee]
  rw [he, hf, show 8 + 23 = 31 from rfl, hs]
  simp

/-- `r` has the field `n`: the powers of the fields from 1 to 255 that do not exceed `r` are those up to `n`. -/
def HasField (r : EReal) (n : ℕ) : Prop :=
  n ≤ 254 ∧ ∀ k, 1 ≤ k → k ≤ 255 → (Ideal.ofBits .f32 (fieldWord (BitVec.ofNat 32 k)) ≤ r ↔ k ≤ n)

/-- A step of the search on natural numbers, for a number of field `n`. -/
def stepN (n f b : ℕ) : ℕ := if f + b ≤ n then f + b else f

/-- A step adds at most its bit. -/
theorem stepN_le (n f b : ℕ) : stepN n f b ≤ f + b := by unfold stepN; split_ifs <;> omega

/-- A step of the search is the step on natural numbers. -/
theorem step_nat {r : EReal} {n : ℕ} (h : HasField r n) (f b : ℕ) (hb : 1 ≤ b) (hfb : f + b ≤ 255) :
    step r (BitVec.ofNat 32 f) (BitVec.ofNat 32 b) = BitVec.ofNat 32 (stepN n f b) := by
  unfold step stepN
  rw [show IntOp.addi (BitVec.ofNat 32 f) (BitVec.ofNat 32 b) = BitVec.ofNat 32 (f + b) from (BitVec.ofNat_add f b).symm]
  have := h.2 (f + b) (by omega) hfb
  by_cases hc : f + b ≤ n
  · simp [Scalar.select, Ideal.cmp, this.2 hc, hc]
  · simp [Scalar.select, Ideal.cmp, this.not.2 hc, hc]

/-- The search on natural numbers finds every field. -/
theorem search_nat : ∀ n : Fin 255,
    stepN n (stepN n (stepN n (stepN n (stepN n (stepN n (stepN n (stepN n 0 128) 64) 32) 16) 8) 4) 2) 1 = n.val := by
  decide +kernel

/-- The kernel's search finds the field of `r`. -/
theorem field_eq {r : EReal} {n : ℕ} (h : HasField r n) : field r = BitVec.ofNat 32 n := by
  have key := search_nat ⟨n, by have := h.1; omega⟩
  have b1 := stepN_le n 0 128
  have b2 := stepN_le n (stepN n 0 128) 64
  have b3 := stepN_le n (stepN n (stepN n 0 128) 64) 32
  have b4 := stepN_le n (stepN n (stepN n (stepN n 0 128) 64) 32) 16
  have b5 := stepN_le n (stepN n (stepN n (stepN n (stepN n 0 128) 64) 32) 16) 8
  have b6 := stepN_le n (stepN n (stepN n (stepN n (stepN n (stepN n 0 128) 64) 32) 16) 8) 4
  have b7 := stepN_le n (stepN n (stepN n (stepN n (stepN n (stepN n (stepN n 0 128) 64) 32) 16) 8) 4) 2
  unfold field
  rw [step_nat h 0 128 (by omega) (by omega), step_nat h _ 64 (by omega) (by omega), step_nat h _ 32 (by omega) (by omega),
    step_nat h _ 16 (by omega) (by omega), step_nat h _ 8 (by omega) (by omega), step_nat h _ 4 (by omega) (by omega),
    step_nat h _ 2 (by omega) (by omega), step_nat h _ 1 (by omega) (by omega)]
  exact congrArg _ key

/-- An integer is at most the base-two logarithm exactly when its power is at most the number. -/
theorem le_floor_log {x : ℝ} (hpos : 0 < x) (z : ℤ) : z ≤ ⌊Real.log x / Real.log 2⌋ ↔ (2 : ℝ) ^ z ≤ x := by
  rw [Int.le_floor, le_div_iff₀ (Real.log_pos one_lt_two), ← Real.log_zpow, Real.log_le_log_iff (by positivity) hpos]

/-- A number below the smallest normal one has the field 0. -/
theorem hasField_small {r : EReal} (h : r < Ideal.ofBits .f32 0x00800000#32) : HasField r 0 := by
  have h1 : Ideal.ofBits .f32 0x00800000#32 = (((2 : ℝ) ^ ((1 : ℤ) - 127) : ℝ) : EReal) := ofBits_field 1 le_rfl (by omega)
  refine ⟨by omega, fun k hk hk' => ⟨fun hle => absurd (lt_of_le_of_lt hle h) ?_, by omega⟩⟩
  rw [not_lt, h1]
  rcases Nat.lt_or_ge k 255 with hlt | hge
  · rw [ofBits_field k hk (by omega), EReal.coe_le_coe_iff]
    exact zpow_le_zpow_right₀ (by norm_num) (by omega)
  · obtain rfl : k = 255 := by omega
    rw [ofBits_field_top]; exact le_top

/-- A real number from the smallest normal one up, below two to the 127, has the field `⌊log₂ r⌋ + 127`. -/
theorem hasField_normal {x : ℝ} (h : ((2 : ℝ) ^ (-126 : ℤ)) ≤ x) (hx : x < (2 : ℝ) ^ (127 : ℤ)) :
    ∃ n : ℕ, 1 ≤ n ∧ (n : ℤ) = ⌊Real.log x / Real.log 2⌋ + 127 ∧ HasField (x : EReal) n := by
  have hpos : 0 < x := lt_of_lt_of_le (by positivity) h
  have pw : ∀ z : ℤ, (2 : ℝ) ^ z ≤ x ↔ z ≤ ⌊Real.log x / Real.log 2⌋ := fun z => (le_floor_log hpos z).symm
  have lo := (pw (-126)).1 h
  have hi : ¬ 127 ≤ ⌊Real.log x / Real.log 2⌋ := fun hc => absurd ((pw 127).2 hc) (not_le.2 hx)
  refine ⟨(⌊Real.log x / Real.log 2⌋ + 127).toNat, by omega, by omega, by omega, fun k hk hk' => ?_⟩
  rcases Nat.lt_or_ge k 255 with hlt | hge
  · rw [ofBits_field k hk (by omega), EReal.coe_le_coe_iff, pw]; omega
  · obtain rfl : k = 255 := by omega
    rw [ofBits_field_top]; simp; omega

/-- Exponent arithmetic on words, for a field from 1 to 252. -/
theorem words : ∀ n : Fin 253, 1 ≤ n.val →
    IntOp.addi (expOf (BitVec.ofNat 32 n)) 127#32 = BitVec.ofNat 32 (n + 1) ∧
    IntOp.addi (IntOp.subi 0#32 (expOf (BitVec.ofNat 32 n))) 127#32 = BitVec.ofNat 32 (253 - n) := by
  decide +kernel

/-- Two to an integral power, as the extended real exponential. -/
theorem exp2_int (z : ℤ) : Ideal.exp2 (((z : ℝ) : ℝ) : EReal) = (((2 : ℝ) ^ z : ℝ) : EReal) := by
  rw [Ideal.exp2_coe]; congr 1; exact Real.rpow_intCast 2 z

/-- The kernel's scale and its inverse are the mathematical ones, at zero and from the smallest normal number to two to the 126. -/
theorem pow2_expOf {r : EReal} (hr : r = 0 ∨ Ideal.ofBits .f32 0x00800000#32 ≤ r) (h : r < (((2 : ℝ) ^ (126 : ℤ) : ℝ) : EReal)) :
    pow2 (expOf (field r)) = Ideal.exp2 (expLog r)
      ∧ pow2 (IntOp.subi 0#32 (expOf (field r))) = Ideal.exp2 (Ideal.ofBits .f32 0#32 - expLog r) := by
  have z0 : Ideal.ofBits .f32 0#32 = 0 := Ideal.ofBits_zero_f32
  have h1 : Ideal.ofBits .f32 0x00800000#32 = (((2 : ℝ) ^ ((1 : ℤ) - 127) : ℝ) : EReal) := ofBits_field 1 le_rfl (by omega)
  rcases hr with rfl | hs
  · have hs : (0 : EReal) < Ideal.ofBits .f32 0x00800000#32 := by
      rw [h1]; exact_mod_cast (by positivity : (0 : ℝ) < (2 : ℝ) ^ ((1 : ℤ) - 127))
    have e0 : expLog 0 = 0 := by simp [expLog, Scalar.select, Ideal.cmp, z0]
    rw [field_eq (hasField_small hs), e0, z0]
    have hp : pow2 0#32 = 1 := by
      have := ofBits_field 127 (by omega) (by omega)
      rw [show pow2 0#32 = Ideal.ofBits .f32 (fieldWord (BitVec.ofNat 32 127)) from rfl, this]; simp
    have hx : Ideal.exp2 0 = 1 := by have := exp2_int 0; simpa using this
    rw [sub_zero, hx]
    exact ⟨hp, hp⟩
  · obtain ⟨x, rfl⟩ : ∃ x : ℝ, r = (x : EReal) := by
      induction r with
      | bot => rw [h1] at hs; simp at hs
      | top => simp at h
      | coe x => exact ⟨x, rfl⟩
    have hx : ((2 : ℝ) ^ (-126 : ℤ)) ≤ x := by
      rw [h1, EReal.coe_le_coe_iff] at hs; exact hs
    rw [EReal.coe_lt_coe_iff] at h
    have hpos : 0 < x := lt_of_lt_of_le (by positivity) hx
    obtain ⟨n, hn1, hn, hf⟩ := hasField_normal hx (lt_trans h (zpow_lt_zpow_right₀ (by norm_num) (by norm_num)))
    have hn2 : n ≤ 252 := by
      by_contra hc
      have : (126 : ℤ) ≤ ⌊Real.log x / Real.log 2⌋ := by omega
      rw [le_floor_log hpos] at this
      exact absurd this (not_le.2 h)
    have two : Ideal.ofBits .f32 0x40000000#32 = ((2 : ℝ) : EReal) := by
      have := ofBits_field 128 (by omega) (by omega)
      rw [show (0x40000000#32) = fieldWord (BitVec.ofNat 32 128) from by decide, this]; norm_num
    have one : Ideal.ofBits .f32 0x3F800000#32 = ((1 : ℝ) : EReal) := by
      have := ofBits_field 127 (by omega) (by omega)
      rw [show (0x3F800000#32) = fieldWord (BitVec.ofNat 32 127) from by decide, this]; norm_num
    have hE : expLog (x : EReal) = (((n : ℤ) - 126 : ℤ) : ℝ) := by
      unfold expLog
      rw [two, one]
      have l2 : Ideal.log ((2 : ℝ) : EReal) = ((Real.log 2 : ℝ) : EReal) := by
        rw [Ideal.log_coe, if_neg (by norm_num)]
      have lx : Ideal.log (x : EReal) = ((Real.log x : ℝ) : EReal) := by
        rw [Ideal.log_coe, if_neg (by linarith)]
      rw [l2, lx, Ideal.div_coe (by have := Real.log_pos (one_lt_two); linarith)]
      have : (Real.log x : EReal) * ((1 / Real.log 2 : ℝ) : EReal) = (((Real.log x / Real.log 2) : ℝ) : EReal) := by
        rw [← EReal.coe_mul]; congr 1; ring
      rw [this, Ideal.liftRound_coe]
      have hne : ¬ ((x : EReal) = Ideal.ofBits .f32 0#32) := by rw [z0]; exact_mod_cast hpos.ne'
      simp only [Scalar.select, Ideal.cmp, hne, decide_false]
      rw [if_neg (by decide), ← EReal.coe_add]
      congr 1
      have : ⌊Real.log x / Real.log 2⌋ = (n : ℤ) - 127 := by omega
      rw [this]; push_cast; ring
    obtain ⟨w1, w2⟩ := words ⟨n, by omega⟩ hn1
    simp only at w1 w2
    rw [field_eq hf, hE, z0, show (0 : EReal) - ((((n : ℤ) - 126 : ℤ) : ℝ) : EReal) = (((-((n : ℤ) - 126) : ℤ) : ℝ) : EReal) from by
      rw [show (0 : EReal) = ((0 : ℝ) : EReal) from rfl, ← EReal.coe_sub]; congr 1; push_cast; ring]
    rw [exp2_int, exp2_int]
    unfold pow2
    rw [w1, w2, ofBits_field _ (by omega) (by omega), ofBits_field _ (by omega) (by omega)]
    refine ⟨?_, ?_⟩ <;> congr 2 <;> push_cast [Nat.cast_sub (show n ≤ 253 by omega)] <;> ring

end Cert.Scale

end
-- ==== Proof.Spec.lean ====
module

public import proofs.«01_k».proof.Proof.Scale

@[expose] public section

set_option maxRecDepth 16384

noncomputable section

/-! The scalar functions of the weight quantiser. -/

namespace Cert.Spec
open Idealize.ShloMosaic

/-- A number clipped to [-8, 7]. -/
def clip (v : EReal) : EReal := min (((7#32).toInt : ℝ) : EReal) (max (((4294967288#32).toInt : ℝ) : EReal) v)
/-- The code of a number: its clip, rounded. -/
def code (v : EReal) : EReal := Ideal.liftRound Ideal.roundHalfEven (clip v)
/-- Whether the clip leaves the number. -/
def inside (v : EReal) : BitVec 1 := BitVec.ofBool (decide (clip v = v))
/-- The factor of the scale's gradient. -/
def factor (v : EReal) : EReal := Scalar.select (inside v) (code v - v) (code v)

/-- The largest magnitude of a column over the largest code. -/
def ratio (c : EReal) (f : Fin 1536 → EReal) : EReal :=
  Finset.univ.fold max (Ideal.ofBits .bf16 0xFF80#16) (fun k => FloatOps.absf (F := Ideal) (φ := .bf16) (f k)) * c
/-- The scale the kernel's search gives. -/
def scaleK (r : EReal) : EReal := Scale.pow2 (Scale.expOf (Scale.field r))
/-- Its inverse, as the kernel forms it. -/
def invK (r : EReal) : EReal := Scale.pow2 (IntOp.subi 0#32 (Scale.expOf (Scale.field r)))
/-- A number over the scale, clipped to the codes' range. -/
def quantK (lo hi r v : EReal) : EReal := min hi (max lo (v * invK r))

/-- One step of the exponent search on vectors. -/
def vstep {s : Shape} (r : FVec Ideal s .f32) (f : IVec s 32) (b : BitVec 32) : IVec s 32 :=
  select (cmpf .oge r (bitcastToFloat .f32 (shli (addi f (broadcast s b)) (broadcast s 23#32)))) (addi f (broadcast s b)) f

/-- A step on vectors is the scalar step at every index. -/
theorem vstep_apply {s : Shape} (r : FVec Ideal s .f32) (f : IVec s 32) (b : BitVec 32) (i : s.Idx) :
    vstep r f b i = Scale.step (r i) (f i) b := rfl

end Cert.Spec

end
-- ==== Proof.TilesAt.lean ====
module

public import proofs.«01_k».proof.Proof.Tiles
public import proofs.«01_k».proof.Proof.Spec

@[expose] public section

set_option maxRecDepth 16384

noncomputable section

/-! The families of the second kernel's results, read at an index. -/

namespace Cert.KernelIdeal.Tiles
open Idealize.ShloMosaic Idealize.ShloMosaic.TcCoe Idealize.SL.Sem
open Cert.KernelIdeal Cert.KernelIdeal.Gen

variable (L : FVec Ideal S256x1536 .fp8e5m2) (Y S : FVec Ideal S256x128 .f32)
  (w : Vec Ideal S256x3584 .f32) (xq : Vec Ideal S1536x3584 .fp8e4m3) (sx : Vec Ideal S1x3584 .f32) (pk : Vec Ideal S256x128 .bf16)

/-- The column `l` of the group `k`. -/
abbrev col (k : Fin 28) (l : Fin 128) : Fin 3584 := ⟨128 * k.val + l.val, by omega⟩

theorem wT_apply (k : Fin 28) (r : Fin 256) (l : Fin 128) : wT w k (ix2 r l) = w (ix2 r (col k l)) := by
  unfold wT
  pointwise

theorem sxT_apply (k : Fin 28) (z : Fin 1) (l : Fin 128) : sxT sx k (ix2 z l) = sx (ix2 0 (col k l)) := by
  unfold sxT
  pointwise

theorem xqT_apply (j : Fin 14) (r : Fin 1536) (l : Fin 256) : xqT xq j (ix2 r l) = xq (ix2 r ⟨256 * j.val + l.val, by omega⟩) := by
  unfold xqT
  pointwise

theorem half_apply (p : Fin 2) (a : FVec Ideal S256x256 .f32) (r : Fin 256) (l : Fin 128) :
    half p a (ix2 r l) = a (ix2 r ⟨128 * p.val + l.val, by omega⟩) := by
  fin_cases p
  · show extractStridedSlice S256x128 ![0, 0] a slices_S256x256_o0_0_S256x128 (ix2 r l) = _
    pointwise
    try rfl
  · show extractStridedSlice S256x128 ![0, 128] a slices_S256x256_o0_128_S256x128 (ix2 r l) = _
    pointwise
    try rfl

theorem tV_apply (k : Fin 28) (r : Fin 256) (l : Fin 128) :
    tV S w k (ix2 r l) = Ideal.div (w (ix2 r (col k l))) (S (ix2 r l)) := by
  unfold tV
  pointwise
  rw [wT_apply]

/-- The clipped weights at an index. -/
theorem tC_apply (k : Fin 28) (r : Fin 256) (l : Fin 128) :
    tC S w k (ix2 r l) = Spec.clip (Ideal.div (w (ix2 r (col k l))) (S (ix2 r l))) := by
  rw [← tV_apply]
  unfold tC
  pointwise
  rfl

/-- The codes at an index. -/
theorem tQ_apply (k : Fin 28) (r : Fin 256) (l : Fin 128) :
    tQ S w k (ix2 r l) = Spec.code (Ideal.div (w (ix2 r (col k l))) (S (ix2 r l))) := by
  unfold tQ
  pointwise
  rw [tC_apply]
  rfl

/-- The clip mask at an index. -/
theorem tIn_apply (k : Fin 28) (r : Fin 256) (l : Fin 128) :
    tIn S w k (ix2 r l) = Spec.inside (Ideal.div (w (ix2 r (col k l))) (S (ix2 r l))) := by
  unfold tIn
  pointwise
  rw [tC_apply, tV_apply]
  rfl

/-- The product at an index: the sum over the 1536 rows. -/
theorem tAcc_apply (j : Fin 14) (r : Fin 256) (l : Fin 256) :
    tAcc L xq j (ix2 r l) = ∑ i : Fin 1536, L (ix2 r i) * xq (ix2 i ⟨256 * j.val + l.val, by omega⟩) := by
  unfold tAcc
  pointwise
  refine Finset.sum_congr rfl fun i _ => ?_
  rw [xqT_apply]

/-- The scaled product at an index. -/
theorem tD_apply (k : Fin 28) (r : Fin 256) (l : Fin 128) :
    tD L Y xq sx k (ix2 r l)
      = (∑ i : Fin 1536, L (ix2 r i) * xq (ix2 i (col k l))) * Y (ix2 r l) * sx (ix2 0 (col k l)) := by
  unfold tD
  pointwise
  rw [half_apply, tAcc_apply, sxT_apply]
  have e : (⟨256 * (chunk k).val + (128 * (side k).val + l.val), by omega⟩ : Fin 3584) = col k l :=
    Fin.ext (show 256 * (k.val / 2) + (128 * (k.val % 2) + l.val) = 128 * k.val + l.val by omega)
  rw [e]

/-- The weight gradient at an index. -/
theorem tW_apply (k : Fin 28) (r : Fin 256) (l : Fin 128) :
    tW L Y S w xq sx k (ix2 r l)
      = Scalar.select (Spec.inside (Ideal.div (w (ix2 r (col k l))) (S (ix2 r l))))
          ((∑ i : Fin 1536, L (ix2 r i) * xq (ix2 i (col k l))) * Y (ix2 r l) * sx (ix2 0 (col k l))) 0 := by
  unfold tW
  pointwise
  rw [tIn_apply, tD_apply]

/-- The factor of the scale's gradient at an index. -/
theorem tF_apply (k : Fin 28) (r : Fin 256) (l : Fin 128) :
    tF S w k (ix2 r l) = Spec.factor (Ideal.div (w (ix2 r (col k l))) (S (ix2 r l))) := by
  unfold tF
  pointwise
  rw [tIn_apply, tQ_apply, tV_apply]
  rfl

/-- The partial sum at an index, after `n` groups. -/
theorem part_apply (n : ℕ) (hn : n ≤ 28) (r : Fin 256) (l : Fin 128) :
    part L Y S w xq sx n (ix2 r l)
      = ∑ k : Fin n, tF S w ⟨k.val, by omega⟩ (ix2 r l) * tD L Y xq sx ⟨k.val, by omega⟩ (ix2 r l) := by
  induction n with
  | zero => unfold part; pointwise; simp
  | succ n ih =>
    unfold part
    rw [dif_pos (show n < 28 by omega)]
    pointwise
    rw [ih (by omega), Fin.sum_univ_castSucc]
    rfl

/-- The packed byte at an index, from the 256 codes of its chunk. -/
theorem tB_apply (j : Fin 14) (r : Fin 256) (l : Fin 128) :
    tB S w pk j (ix2 r l)
      = BitVec.setWidth 8 (IntOp.xori (FloatOps.fptosi (F := Ideal) (φ := .f32) 32
          ((∑ i : Fin 128, tQ S w ⟨2 * j.val, by omega⟩ (ix2 r i) * pk (ix2 ⟨i.val, by omega⟩ l)
            + ∑ i : Fin 128, tQ S w ⟨2 * j.val + 1, by omega⟩ (ix2 r i) * pk (ix2 ⟨128 + i.val, by omega⟩ l))
            + Ideal.ofBits .f32 0x43080000#32)) 136#32) := by
  unfold tB
  pointwise

/-- The row scales, spread over the columns. -/
theorem pay14_apply (s : Vec Ideal S1x1x256 .f32) (r : Fin 256) (l : Fin 128) : k1_pay14 s (ix2 r l) = s (ix3 0 0 r) := by
  pointwise [k1_pay14]
  split
  · rfl
  · congr 2; exact Fin.ext (show 128 + (r.val - 128) = r.val by omega)

/-- The scales of `dy`, spread over the columns. -/
theorem pay13_apply (s : IVec S1x256 32) (r : Fin 256) (l : Fin 128) :
    k1_pay13 (F := Ideal) s (ix2 r l) = k1_pay10 (F := Ideal) s (ix2 0 r) := by
  pointwise [k1_pay13]
  split
  · rfl
  · congr 2; exact Fin.ext (show 128 + (r.val - 128) = r.val by omega)

/-- The left operand of the products is the codes of `dy`, transposed. -/
theorem pay12_apply (a b : FVec Ideal S1536x256 .bf16) (r : Fin 256) (k : Fin 1536) :
    k1_pay12 a b (ix2 r k) = k1_pay9 a b (ix2 k r) := by
  pointwise [k1_pay12]

/-- The scale's gradient of a row: the partial sums over the 128 columns, times the constant. -/
theorem pay2_apply (a : FVec Ideal S256x128 .f32) (r : Fin 256) :
    k1_pay2 a (ix3 0 0 r) = Ideal.ofBits .f32 0x3BCEE116#32 * ∑ l : Fin 128, a (ix2 r l) := by
  pointwise [k1_pay2]

end Cert.KernelIdeal.Tiles

end
-- ==== Proof.Quant.lean ====
module

public import proofs.«01_k».proof.Proof.Tiles
public import proofs.«01_k».proof.Proof.Spec

@[expose] public section

set_option maxRecDepth 16384

noncomputable section

/-! Both quantisers at an index, by the scalar functions. -/

namespace Cert.KernelIdeal.Tiles
open Idealize.ShloMosaic Idealize.ShloMosaic.TcCoe Idealize.SL.Sem
open Cert.KernelIdeal Cert.KernelIdeal.Gen

/-! ### The quantiser of `x` -/

/-- The ratio of a column of `x`. -/
abbrev ratioX (b : Vec Ideal S1536x512 .bf16) (l : Fin 512) : EReal :=
  Spec.ratio (Ideal.ofBits .f32 0x3B124925#32) fun i => b (ix2 i l)

/-- The first kernel's ratio at an index. -/
theorem p0_ratio (b : Vec Ideal S1536x512 .bf16) (z : Fin 1) (l : Fin 512) : k0_pay4 b (ix2 z l) = ratioX b l := by
  pointwise [k0_pay4, k0_pay3]
  rfl

/-- The first kernel's exponent at an index. -/
theorem p0_exp (b : Vec Ideal S1536x512 .bf16) (z : Fin 1) (l : Fin 512) :
    k0_pay6 (k0_pay4 b) (k0_pay5 b) (ix2 z l) = Scale.expOf (Scale.field (ratioX b l)) := by
  rw [← p0_ratio b z l]
  generalize hr : k0_pay4 b = r
  have e : k0_pay5 b = Spec.vstep r (Spec.vstep r (Spec.vstep r (Spec.vstep r (Spec.vstep r (broadcast S1x512 0#32) 128#32) 64#32) 32#32) 16#32) 8#32 := by
    rw [← hr]; rfl
  have e' : ∀ f, k0_pay6 r f (ix2 z l)
      = Scale.expOf (Spec.vstep r (Spec.vstep r (Spec.vstep r f 4#32) 2#32) 1#32 (ix2 z l)) := fun f => rfl
  rw [e', e]
  simp only [Spec.vstep_apply]
  rfl

/-- The first kernel's scale at an index. -/
theorem p0_scale (b : Vec Ideal S1536x512 .bf16) (z : Fin 1) (l : Fin 512) :
    k0_pay2 (F := Ideal) (k0_pay6 (k0_pay4 b) (k0_pay5 b)) (ix2 z l) = Spec.scaleK (ratioX b l) := by
  have : ∀ e : IVec S1x512 32, k0_pay2 (F := Ideal) e (ix2 z l) = Scale.pow2 (e (ix2 z l)) := fun e => rfl
  rw [this, p0_exp]
  rfl

/-- The first kernel's codes at an index. -/
theorem p0_code (b : Vec Ideal S1536x512 .bf16) (k : Fin 1536) (l : Fin 512) :
    k0_pay1 (k0_pay7 (k0_pay3 b) (k0_pay4 b) (k0_pay5 b)) k0_pay8 (ix2 k l)
      = Spec.quantK (Ideal.ofBits .f32 0xC3E00000#32) (Ideal.ofBits .f32 0x43E00000#32) (ratioX b l) (b (ix2 k l)) := by
  pointwise [k0_pay1, k0_pay7, k0_pay8, k0_pay3]
  rw [p0_exp]
  rfl

/-- The block of the codes of `x`. -/
theorem out0_code (b : Vec Ideal S1536x512 .bf16) (k : Fin 1536) (l : Fin 512) :
    out0_1 b (ix2 k l)
      = Spec.quantK (Ideal.ofBits .f32 0xC3E00000#32) (Ideal.ofBits .f32 0x43E00000#32) (ratioX b l) (b (ix2 k l)) := by
  rw [← p0_code]
  unfold_out out0_1
  frame_out

/-- The block of the column scales of `x`. -/
theorem out0_scale (b : Vec Ideal S1536x512 .bf16) (z : Fin 1) (l : Fin 512) :
    out0_2 b (ix2 z l) = Spec.scaleK (ratioX b l) := by
  rw [← p0_scale b z l]
  unfold_out out0_2
  frame_out

/-! ### The quantiser of `dy` -/

/-- The ratio of a column of `dy`. -/
abbrev ratioY (b : Vec Ideal S1536x256 .bf16) (l : Fin 256) : EReal :=
  Spec.ratio (Ideal.ofBits .f32 0x37924925#32) fun i => b (ix2 i l)

/-- The second kernel's ratio at an index. -/
theorem p1_ratio (b : Vec Ideal S1536x256 .bf16) (z : Fin 1) (l : Fin 256) : k1_pay4 b (ix2 z l) = ratioY b l := by
  pointwise [k1_pay4, k1_pay3]
  rfl

/-- The second kernel's exponent at an index. -/
theorem p1_exp (b : Vec Ideal S1536x256 .bf16) (z : Fin 1) (l : Fin 256) :
    k1_pay6 (k1_pay4 b) (k1_pay5 b) (ix2 z l) = Scale.expOf (Scale.field (ratioY b l)) := by
  rw [← p1_ratio b z l]
  generalize hr : k1_pay4 b = r
  have e : k1_pay5 b = Spec.vstep r (Spec.vstep r (Spec.vstep r (Spec.vstep r (Spec.vstep r (broadcast S1x256 0#32) 128#32) 64#32) 32#32) 16#32) 8#32 := by
    rw [← hr]; rfl
  have e' : ∀ f, k1_pay6 r f (ix2 z l)
      = Scale.expOf (Spec.vstep r (Spec.vstep r (Spec.vstep r f 4#32) 2#32) 1#32 (ix2 z l)) := fun f => rfl
  rw [e', e]
  simp only [Spec.vstep_apply]
  rfl

/-- The second kernel's scale at an index. -/
theorem p1_scale (b : Vec Ideal S1536x256 .bf16) (z : Fin 1) (l : Fin 256) :
    k1_pay10 (F := Ideal) (ex b) (ix2 z l) = Spec.scaleK (ratioY b l) := by
  have : ∀ e : IVec S1x256 32, k1_pay10 (F := Ideal) e (ix2 z l) = Scale.pow2 (e (ix2 z l)) := fun e => rfl
  rw [this, ex, p1_exp]
  rfl

/-- The second kernel's codes of `dy` at an index. -/
theorem p1_code (b : Vec Ideal S1536x256 .bf16) (k : Fin 1536) (l : Fin 256) :
    k1_pay9 (k1_pay7 (k1_pay3 b) (k1_pay4 b) (k1_pay5 b)) k1_pay8 (ix2 k l)
      = Spec.quantK (Ideal.ofBits .f32 0xC7600000#32) (Ideal.ofBits .f32 0x47600000#32) (ratioY b l) (b (ix2 k l)) := by
  pointwise [k1_pay9, k1_pay7, k1_pay8, k1_pay3]
  rw [p1_exp]
  rfl

end Cert.KernelIdeal.Tiles

end
-- ==== Proof.Blocks.lean ====
module

public import proofs.«01_k».proof.Proof.TilesAt
public import proofs.«01_k».proof.Proof.Quant

@[expose] public section

set_option maxRecDepth 16384

noncomputable section

/-! The second kernel's blocks at an index, by the scalar functions. -/

namespace Cert.KernelIdeal.Tiles
open Idealize.ShloMosaic Idealize.ShloMosaic.TcCoe Idealize.SL.Sem
open Cert.KernelIdeal Cert.KernelIdeal.Gen

/-! ### The second kernel's blocks -/

/-- The left operand at an index: the code of `dy`. -/
theorem lhs_apply (b : Vec Ideal S1536x256 .bf16) (r : Fin 256) (k : Fin 1536) :
    lhs b (ix2 r k)
      = Spec.quantK (Ideal.ofBits .f32 0xC7600000#32) (Ideal.ofBits .f32 0x47600000#32) (ratioY b r) (b (ix2 k r)) := by
  unfold lhs
  rw [pay12_apply, p1_code]

/-- The weight gradient of a row before the mask, at a column: the product of the codes, scaled back. -/
def grad (b : Vec Ideal S1536x256 .bf16) (xq : Vec Ideal S1536x3584 .fp8e4m3) (sx : Vec Ideal S1x3584 .f32)
    (r : Fin 256) (c : Fin 3584) : EReal :=
  (∑ i : Fin 1536, Spec.quantK (Ideal.ofBits .f32 0xC7600000#32) (Ideal.ofBits .f32 0x47600000#32) (ratioY b r) (b (ix2 i r))
      * xq (ix2 i c)) * Spec.scaleK (ratioY b r) * sx (ix2 0 c)

/-- The family's scaled product is the gradient. -/
theorem tD_grad (b : Vec Ideal S1536x256 .bf16) (xq : Vec Ideal S1536x3584 .fp8e4m3) (sx : Vec Ideal S1x3584 .f32)
    (k : Fin 28) (r : Fin 256) (l : Fin 128) :
    tD (lhs b) (k1_pay13 (ex b)) xq sx k (ix2 r l) = grad b xq sx r (col k l) := by
  rw [tD_apply, pay13_apply, p1_scale]
  unfold grad
  congr 2
  exact Finset.sum_congr rfl fun i _ => by rw [lhs_apply]

variable (V : (c : Dev nD) → (b : Idealize.ShloMosaic.Ref sig .tc) → Buf (Elt Ideal) ((c : Thread nD τ).loc b))

/-- A weight over its row's scale, at a grid point. -/
abbrev quot (c : Dev nD) (t : Fin cfg1.N) (r : Fin 256) (j : Fin 3584) : EReal :=
  Ideal.div (iblk1 V c 1 t (ix2 r j)) (iblk1 V c 2 t (ix3 0 0 r))

/-- The column groups in the order they were written last to first. -/
abbrev rev28 (i : Fin 28) : Fin 28 := ⟨27 - i.val, by omega⟩
/-- The byte groups in the order they were written last to first. -/
abbrev rev14 (i : Fin 14) : Fin 14 := ⟨13 - i.val, by omega⟩

/-- The weight gradient's block at an index. -/
theorem dw_apply (c : Dev nD) (t : Fin cfg1.N) (r : Fin 256) (j : Fin 3584) :
    (outsAt1 V c t).1 (ix2 r j)
      = Scalar.select (Spec.inside (quot V c t r j)) (grad (iblk1 V c 0 t) (iblk1 V c 3 t) (iblk1 V c 4 t) r j) 0 := by
  rw [out_dw]
  refine View.canon_ofFn_unit_eq_of_forall (S := S256x3584) (fun i : Fin 28 => ![0, 128 * (27 - i.val)]) ![256, 128]
    (fun i => inbW ⟨27 - i.val, by omega⟩) _ _ _ ?_ ?_
  · refine ⟨⟨27 - j.val / 128, by omega⟩, fun a => ?_⟩
    have := j.isLt; have := r.isLt
    fin_cases a <;> simp [ix2] <;> omega
  · intro i x hx
    obtain ⟨r', l, rfl⟩ : ∃ (r' : Fin 256) (l : Fin 128), x = ix2 r' l := ⟨x 0, x 1, by funext a; fin_cases a <;> rfl⟩
    have h0 : r.val = 0 + r'.val := hx 0
    have h1 : j.val = 128 * (27 - i.val) + l.val := hx 1
    obtain rfl : r = r' := Fin.ext (by omega)
    obtain rfl : j = col (rev28 i) l := Fin.ext h1
    rw [show (⟨27 - i.val, _⟩ : Fin 28) = rev28 i from rfl, tW_apply, pay14_apply, ← tD_apply, tD_grad]

/-- The scale gradient's block at an index. -/
theorem ds_apply (c : Dev nD) (t : Fin cfg1.N) (r : Fin 256) :
    (outsAt1 V c t).2.1 (ix3 0 0 r)
      = Ideal.ofBits .f32 0x3BCEE116#32
        * ∑ j : Fin 3584, Spec.factor (quot V c t r j) * grad (iblk1 V c 0 t) (iblk1 V c 3 t) (iblk1 V c 4 t) r j := by
  rw [out_ds, pay2_apply]
  congr 1
  simp only [part_apply _ _ _ _ _ _ 28 le_rfl, tF_apply, pay14_apply, tD_grad]
  rw [Finset.sum_comm, Fin.sum_univ_tiles 28 128 rfl]
  refine Finset.sum_congr rfl fun k _ => Finset.sum_congr rfl fun l _ => ?_
  have e : (⟨k.val * 128 + l.val, by omega⟩ : Fin 3584) = col k l := Fin.ext (show k.val * 128 + l.val = 128 * k.val + l.val by omega)
  rw [e]

/-- The block of the codes of `dy` at an index. -/
theorem dyq_apply (c : Dev nD) (t : Fin cfg1.N) (k : Fin 1536) (l : Fin 256) :
    (outsAt1 V c t).2.2.1 (ix2 k l)
      = Spec.quantK (Ideal.ofBits .f32 0xC7600000#32) (Ideal.ofBits .f32 0x47600000#32) (ratioY (iblk1 V c 0 t) l)
          (iblk1 V c 0 t (ix2 k l)) := by
  rw [out_dyq, p1_code]

/-- The block of the column scales of `dy` at an index. -/
theorem sy_apply (c : Dev nD) (t : Fin cfg1.N) (l : Fin 256) :
    (outsAt1 V c t).2.2.2.1 (ix3 0 0 l) = Spec.scaleK (ratioY (iblk1 V c 0 t) l) := by
  rw [out_sy, ← p1_scale (iblk1 V c 0 t) 0 l]
  pointwise [k1_pay11]

/-- The byte of two codes, as the kernel forms it from the packing matrix's column `l`. -/
def byteK (q : Fin 256 → EReal) (p : Fin 256 → EReal) : BitVec 8 :=
  BitVec.setWidth 8 (IntOp.xori (FloatOps.fptosi (F := Ideal) (φ := .f32) 32
    ((∑ i : Fin 256, q i * p i) + Ideal.ofBits .f32 0x43080000#32)) 136#32)

/-- A sum over 256 in its two halves. -/
theorem pairSum (f : Fin 256 → EReal) :
    ∑ i : Fin 256, f i = ∑ i : Fin 128, f ⟨i.val, by omega⟩ + ∑ i : Fin 128, f ⟨128 + i.val, by omega⟩ :=
  Fin.sum_univ_add (a := 128) (b := 128) f

/-- The packed codes' block at an index. -/
theorem qp_apply (c : Dev nD) (t : Fin cfg1.N) (r : Fin 256) (j : Fin 14) (l : Fin 128) :
    (outsAt1 V c t).2.2.2.2 (ix2 r ⟨128 * j.val + l.val, by omega⟩)
      = byteK (fun i => Spec.code (quot V c t r ⟨256 * j.val + i.val, by omega⟩)) (fun i => iblk1 V c 5 t (ix2 i l)) := by
  rw [out_qp]
  refine View.canon_ofFn_unit_eq_of_forall (S := S256x1792) (fun i : Fin 14 => ![0, 128 * (13 - i.val)]) ![256, 128]
    (fun i => inbP ⟨13 - i.val, by omega⟩) _ _ _ ?_ ?_
  · refine ⟨⟨13 - j.val, by omega⟩, fun a => ?_⟩
    have := j.isLt; have := r.isLt; have := l.isLt
    fin_cases a <;> simp [ix2] <;> omega
  · intro i x hx
    obtain ⟨r', l', rfl⟩ : ∃ (r' : Fin 256) (l : Fin 128), x = ix2 r' l := ⟨x 0, x 1, by funext a; fin_cases a <;> rfl⟩
    have h0 : r.val = 0 + r'.val := hx 0
    have h1 : 128 * j.val + l.val = 128 * (13 - i.val) + l'.val := hx 1
    obtain rfl : r = r' := Fin.ext (by omega)
    obtain rfl : l = l' := Fin.ext (by omega)
    obtain rfl : j = rev14 i := Fin.ext (show j.val = 13 - i.val by omega)
    rw [tB_apply]
    unfold byteK
    rw [pairSum]
    simp only [tQ_apply, pay14_apply]
    have e0 : ∀ x : Fin 128, col ⟨2 * (13 - i.val), by omega⟩ x = (⟨256 * (rev14 i).val + x.val, by omega⟩ : Fin 3584) :=
      fun x => Fin.ext (show 128 * (2 * (13 - i.val)) + x.val = 256 * (13 - i.val) + x.val by omega)
    have e1 : ∀ x : Fin 128, col ⟨2 * (13 - i.val) + 1, by omega⟩ x = (⟨256 * (rev14 i).val + (128 + x.val), by omega⟩ : Fin 3584) :=
      fun x => Fin.ext (show 128 * (2 * (13 - i.val) + 1) + x.val = 256 * (13 - i.val) + (128 + x.val) by omega)
    simp only [e0, e1]

end Cert.KernelIdeal.Tiles

end
-- ==== Proof.Arrays.lean ====
module

public import proofs.«01_k».proof.Proof.Places
public import proofs.«01_k».proof.Proof.Blocks

@[expose] public section

set_option maxRecDepth 16384

noncomputable section

/-! The kernels' arrays at an index, from the blocks that their points write. -/

namespace Cert.KernelIdeal.Run
open Idealize.ShloMosaic Idealize.ShloMosaic.TcCoe Idealize.SL.Sem
open Cert.KernelIdeal Cert.KernelIdeal.Gen Cert.KernelIdeal.Tiles

/-- The ratio of a column of `x`, of the whole array. -/
def ratX (A : S1536x3584.Idx → EReal) (j : Fin 3584) : EReal := Spec.ratio (Ideal.ofBits .f32 0x3B124925#32) fun k => A (ix2 k j)
/-- The ratio of a column of `dy`, of the whole array. -/
def ratY (A : S1536x18944.Idx → EReal) (r : Fin 18944) : EReal := Spec.ratio (Ideal.ofBits .f32 0x37924925#32) fun k => A (ix2 k r)
/-- The code of a number of `x`. -/
def codeX (A : S1536x3584.Idx → EReal) (k : Fin 1536) (j : Fin 3584) : EReal :=
  Spec.quantK (Ideal.ofBits .f32 0xC3E00000#32) (Ideal.ofBits .f32 0x43E00000#32) (ratX A j) (A (ix2 k j))
/-- The code of a number of `dy`. -/
def codeY (A : S1536x18944.Idx → EReal) (k : Fin 1536) (r : Fin 18944) : EReal :=
  Spec.quantK (Ideal.ofBits .f32 0xC7600000#32) (Ideal.ofBits .f32 0x47600000#32) (ratY A r) (A (ix2 k r))
/-- The gradient of a weight before the mask. -/
def gradA (Y : S1536x18944.Idx → EReal) (Q : S1536x3584.Idx → EReal) (X : S1x3584.Idx → EReal) (r : Fin 18944) (j : Fin 3584) : EReal :=
  (∑ k : Fin 1536, codeY Y k r * Q (ix2 k j)) * Spec.scaleK (ratY Y r) * X (ix2 0 j)
/-- A weight over its row's scale. -/
def quotA (W : S18944x3584.Idx → EReal) (S : S74x1x256.Idx → EReal) (r : Fin 18944) (j : Fin 3584) : EReal :=
  Ideal.div (W (ix2 r j)) (S (ix3 (⟨r.val / 256, by omega⟩ : Fin 74) (0 : Fin 1) (⟨r.val % 256, by omega⟩ : Fin 256)))

/-- The array of the codes of `x`. -/
def gxq (A : S1536x3584.Idx → EReal) : S1536x3584.Idx → EReal := fun i => codeX A (i 0) (i 1)
/-- The array of the scales of `x`. -/
def gsx (A : S1536x3584.Idx → EReal) : S1x3584.Idx → EReal := fun i => Spec.scaleK (ratX A (i 1))
/-- The array of the weights' gradient. -/
def gdw (Y : S1536x18944.Idx → EReal) (Q : S1536x3584.Idx → EReal) (X : S1x3584.Idx → EReal) (W : S18944x3584.Idx → EReal)
    (S : S74x1x256.Idx → EReal) : S18944x3584.Idx → EReal :=
  fun i => Scalar.select (Spec.inside (quotA W S (i 0) (i 1))) (gradA Y Q X (i 0) (i 1)) 0
/-- The gradient of a row's scale. -/
def dsA (Y : S1536x18944.Idx → EReal) (Q : S1536x3584.Idx → EReal) (X : S1x3584.Idx → EReal) (W : S18944x3584.Idx → EReal)
    (S : S74x1x256.Idx → EReal) (r : Fin 18944) : EReal :=
  Ideal.ofBits .f32 0x3BCEE116#32 * ∑ j : Fin 3584, Spec.factor (quotA W S r j) * gradA Y Q X r j
/-- The row that an index of a [74, 1, 256] array stands for. -/
def rowOf (i : S74x1x256.Idx) : Fin 18944 := ⟨(i 0).val * 256 + (i 2).val, by
  have h0 : (i 0).val < 74 := (i 0).isLt
  have h2 : (i 2).val < 256 := (i 2).isLt
  omega⟩
/-- The array of the scales' gradient. -/
def gds (Y : S1536x18944.Idx → EReal) (Q : S1536x3584.Idx → EReal) (X : S1x3584.Idx → EReal) (W : S18944x3584.Idx → EReal)
    (S : S74x1x256.Idx → EReal) : S74x1x256.Idx → EReal := fun i => dsA Y Q X W S (rowOf i)
/-- The array of the codes of `dy`. -/
def gyq (Y : S1536x18944.Idx → EReal) : S1536x18944.Idx → EReal := fun i => codeY Y (i 0) (i 1)
/-- The array of the scales of `dy`. -/
def gsy (Y : S1536x18944.Idx → EReal) : S74x1x256.Idx → EReal := fun i => Spec.scaleK (ratY Y (rowOf i))
/-- The byte of a row at a place. -/
def byteA (W : S18944x3584.Idx → EReal) (S : S74x1x256.Idx → EReal) (P : S256x128.Idx → EReal) (r : Fin 18944) (l : Fin 1792) : BitVec 8 :=
  byteK (fun k => Spec.code (quotA W S r ⟨256 * (l.val / 128) + k.val, by omega⟩))
    (fun k => P (ix2 k (⟨l.val % 128, by omega⟩ : Fin 128)))
/-- The array of the packed codes. -/
def gqp (W : S18944x3584.Idx → EReal) (S : S74x1x256.Idx → EReal) (P : S256x128.Idx → EReal) : S18944x1792.Idx → BitVec 8 :=
  fun i => byteA W S P (i 0) (i 1)

/-! ### The first kernel -/

section
variable (V : (c : Dev nD) → (b : Ref sig .tc) → Buf (Elt Ideal) ((c : Thread nD τ).loc b))

theorem arr0_1 (c : Dev nD) : (dat0 V c).arrAt 1 cfg0.N
    = gxq (V c main_v0) := by
  refine (dat0 V c).arrAt_eq_of_covers 1 _ (by decide +kernel) fun t hf y => ?_
  rw [after0_1]
  blk_simp
  revert y
  show ∀ y : S1536x512.Idx, _
  intro y
  obtain ⟨k, l, rfl⟩ : ∃ (k : Fin 1536) (l : Fin 512), y = ix2 k l := ⟨y 0, y 1, eq_ix2 y⟩
  refine (out0_code (iblk0 V c 0 t) k l).trans ?_
  rw [out01]
  unfold ratioX
  simp only [in00]
  rfl

theorem arr0_2 (c : Dev nD) : (dat0 V c).arrAt 2 cfg0.N
    = gsx (V c main_v0) := by
  refine (dat0 V c).arrAt_eq_of_covers 2 _ (by decide +kernel) fun t hf y => ?_
  rw [after0_2]
  blk_simp
  revert y
  show ∀ y : S1x512.Idx, _
  intro y
  obtain ⟨k, l, rfl⟩ : ∃ (k : Fin 1) (l : Fin 512), y = ix2 k l := ⟨y 0, y 1, eq_ix2 y⟩
  refine (out0_scale (iblk0 V c 0 t) k l).trans ?_
  rw [out02]
  unfold ratioX
  simp only [in00]
  rfl

/-! ### The second kernel -/

/-- The row that a block's row is. -/
def row (t : Fin cfg1.N) (r : Fin 256) : Fin 18944 := ⟨t.val * 256 + r.val, by have := lt1 t; omega⟩

theorem ratio_blk (c : Dev nD) (t : Fin cfg1.N) (r : Fin 256) : ratioY (iblk1 V c 0 t) r = ratY (V c main_v13) (row t r) := by
  unfold ratioY ratY
  simp only [in10]
  rfl

theorem grad_blk (c : Dev nD) (t : Fin cfg1.N) (r : Fin 256) (j : Fin 3584) :
    grad (iblk1 V c 0 t) (iblk1 V c 3 t) (iblk1 V c 4 t) r j = gradA (V c main_v13) (V c main_v1_0) (V c main_v1_1) (row t r) j := by
  unfold grad gradA codeY
  rw [ratio_blk]
  simp only [in10, in13, in14]
  rfl

theorem quot_blk (c : Dev nD) (t : Fin cfg1.N) (r : Fin 256) (j : Fin 3584) :
    quot V c t r j = quotA (V c main_arg2) (V c main_v14) (row t r) j := by
  unfold quot quotA
  rw [in11, in12]
  have ht := lt1 t
  have h1 : (⟨(row t r).val / 256, by omega⟩ : Fin 74) = ⟨t.val, lt1 t⟩ := Fin.ext (by show (t.val * 256 + r.val) / 256 = t.val; omega)
  have h2 : (⟨(row t r).val % 256, by omega⟩ : Fin 256) = r := Fin.ext (by show (t.val * 256 + r.val) % 256 = r.val; omega)
  rw [h1, h2]
  rfl

theorem arr1_6 (c : Dev nD) : (dat1 V c).arrAt 6 cfg1.N
    = gdw (V c main_v13) (V c main_v1_0) (V c main_v1_1) (V c main_arg2) (V c main_v14) := by
  refine (dat1 V c).arrAt_eq_of_covers 6 _ (by decide +kernel) fun t hf y => ?_
  rw [after1_6]
  blk_simp
  revert y
  show ∀ y : S256x3584.Idx, _
  intro y
  obtain ⟨k, l, rfl⟩ : ∃ (k : Fin 256) (l : Fin 3584), y = ix2 k l := ⟨y 0, y 1, eq_ix2 y⟩
  refine (dw_apply V c t k l).trans ?_
  rw [out16, quot_blk, grad_blk]
  rfl

theorem arr1_7 (c : Dev nD) : (dat1 V c).arrAt 7 cfg1.N
    = gds (V c main_v13) (V c main_v1_0) (V c main_v1_1) (V c main_arg2) (V c main_v14) := by
  refine (dat1 V c).arrAt_eq_of_covers 7 _ (by decide +kernel) fun t hf y => ?_
  rw [after1_7]
  blk_simp
  revert y
  show ∀ y : S1x1x256.Idx, _
  intro y
  obtain ⟨l, rfl⟩ : ∃ (l : Fin 256), y = ix3 0 0 l := ⟨y 2, by
    rw [eq_ix3 y, Subsingleton.elim (α := Fin 1) (y 0) 0, Subsingleton.elim (α := Fin 1) (y 1) 0]; rfl⟩
  refine (ds_apply V c t l).trans ?_
  rw [out17]
  simp only [quot_blk, grad_blk]
  rfl

theorem arr1_8 (c : Dev nD) : (dat1 V c).arrAt 8 cfg1.N
    = gyq (V c main_v13) := by
  refine (dat1 V c).arrAt_eq_of_covers 8 _ (by decide +kernel) fun t hf y => ?_
  rw [after1_8]
  blk_simp
  revert y
  show ∀ y : S1536x256.Idx, _
  intro y
  obtain ⟨k, l, rfl⟩ : ∃ (k : Fin 1536) (l : Fin 256), y = ix2 k l := ⟨y 0, y 1, eq_ix2 y⟩
  refine (dyq_apply V c t k l).trans ?_
  rw [out18, ratio_blk, in10]
  rfl

theorem arr1_9 (c : Dev nD) : (dat1 V c).arrAt 9 cfg1.N
    = gsy (V c main_v13) := by
  refine (dat1 V c).arrAt_eq_of_covers 9 _ (by decide +kernel) fun t hf y => ?_
  rw [after1_9]
  blk_simp
  revert y
  show ∀ y : S1x1x256.Idx, _
  intro y
  obtain ⟨l, rfl⟩ : ∃ (l : Fin 256), y = ix3 0 0 l := ⟨y 2, by
    rw [eq_ix3 y, Subsingleton.elim (α := Fin 1) (y 0) 0, Subsingleton.elim (α := Fin 1) (y 1) 0]; rfl⟩
  refine (sy_apply V c t l).trans ?_
  rw [out19, ratio_blk]
  rfl

theorem arr1_10 (c : Dev nD) : (dat1 V c).arrAt 10 cfg1.N
    = gqp (V c main_arg2) (V c main_v14) (V c main_v12) := by
  refine (dat1 V c).arrAt_eq_of_covers 10 _ (by decide +kernel) fun t hf y => ?_
  rw [after1_10]
  blk_simp
  revert y
  show ∀ y : S256x1792.Idx, _
  intro y
  obtain ⟨r, j, l, rfl⟩ : ∃ (r : Fin 256) (j : Fin 14) (l : Fin 128), y = ix2 r (⟨128 * j.val + l.val, by omega⟩ : Fin 1792) := by
    have h1 : (y 1).val < 1792 := (y 1).isLt
    refine ⟨y 0, ⟨(y 1).val / 128, by omega⟩, ⟨(y 1).val % 128, by omega⟩, (eq_ix2 y).trans ?_⟩
    refine congrArg (ix2 (y 0)) (Fin.ext ?_)
    show (y 1).val = 128 * ((y 1).val / 128) + (y 1).val % 128
    omega
  refine (qp_apply V c t r j l).trans ?_
  rw [out1a]
  simp only [quot_blk, in15]
  unfold gqp byteA
  have h1 : (128 * j.val + l.val) / 128 = j.val := by omega
  have h2 : (128 * j.val + l.val) % 128 = l.val := by omega
  congr 1
  · funext k
    congr 2
    exact Fin.ext (by show 256 * j.val + k.val = 256 * ((128 * j.val + l.val) / 128) + k.val; rw [h1])
  · funext k
    congr 2
    exact Fin.ext h2.symm

end
end Cert.KernelIdeal.Run
end
-- ==== Proof.Weights.lean ====
module

public import proofs.«01_k».proof.Proof.Spec

@[expose] public section

set_option maxRecDepth 16384

noncomputable section

/-! The weight quantiser as the kernel computes it against the quantiser as the mathematics states it. -/

namespace Cert.Spec
open Idealize.ShloMosaic

/-- The bound 7 as a float's word. -/
theorem seven : Ideal.ofBits .f32 0x40E00000#32 = ((7 : ℝ) : EReal) := by
  simp [Ideal.ofBits, Ideal.ieee]; rw [← EReal.coe_mul]; norm_num
/-- The bound -8 as a float's word. -/
theorem minusEight : Ideal.ofBits .f32 0xC1000000#32 = ((-8 : ℝ) : EReal) := by
  simp [Ideal.ofBits, Ideal.ieee]; rw [← EReal.coe_mul]; norm_num

/-- The integer bounds. -/
theorem hiInt : (((7#32).toInt : ℝ) : EReal) = ((7 : ℝ) : EReal) := by
  rw [show (7#32).toInt = 7 by decide]; norm_num
theorem loInt : (((4294967288#32).toInt : ℝ) : EReal) = ((-8 : ℝ) : EReal) := by
  rw [show (4294967288#32).toInt = -8 by decide]; norm_num

/-- The mask as the mathematics states it: between -8 and 7. -/
def maskR (v : EReal) : BitVec 1 :=
  IntOp.andi (Ideal.cmp .oge v (Ideal.ofBits .f32 0xC1000000#32)) (Ideal.cmp .ole v (Ideal.ofBits .f32 0x40E00000#32))
/-- The code as the mathematics states it: rounded, clipped, an 8-bit integer. -/
def codeR (v : EReal) : BitVec 8 :=
  Ideal.fptosi 8 (min (((7#32).toInt : ℝ) : EReal) (max (((4294967288#32).toInt : ℝ) : EReal)
    (Ideal.liftRound Ideal.roundHalfEven v)))
/-- The factor of the scale's gradient as the mathematics states it. -/
def factorR (v : EReal) : EReal :=
  Scalar.select (Ideal.cmp .olt v (Ideal.ofBits .f32 0xC1000000#32)) (Ideal.ofBits .f32 0xC1000000#32)
    (Scalar.select (Ideal.cmp .ogt v (Ideal.ofBits .f32 0x40E00000#32)) (Ideal.ofBits .f32 0x40E00000#32)
      ((((codeR v).toInt : ℝ) : EReal) - v))
/-- The byte of two codes as the mathematics states it. -/
def byteR (a b : BitVec 8) : BitVec 8 := IntOp.ori (IntOp.andi a 15#8) (IntOp.shli .vector (IntOp.andi b 15#8) 4#8)

theorem clip_eq (v : EReal) : clip v = min ((7 : ℝ) : EReal) (max ((-8 : ℝ) : EReal) v) := by
  unfold clip; rw [hiInt, loInt]

/-- The clip leaves exactly the numbers from -8 to 7. -/
theorem inside_eq (v : EReal) : inside v = maskR v := by
  have hle : ((-8 : ℝ) : EReal) ≤ ((7 : ℝ) : EReal) := by rw [EReal.coe_le_coe_iff]; norm_num
  unfold inside maskR
  rw [clip_eq, seven, minusEight]
  generalize ((-8 : ℝ) : EReal) = lo at *
  generalize ((7 : ℝ) : EReal) = hi at *
  have key : (min hi (max lo v) = v) ↔ (lo ≤ v ∧ v ≤ hi) := by
    constructor
    · intro h
      exact ⟨h ▸ le_min hle (le_max_left _ _), h ▸ min_le_left _ _⟩
    · rintro ⟨h1, h2⟩
      rw [max_eq_right h1, min_eq_right h2]
  simp only [key, Ideal.cmp, IntOp.andi]
  by_cases h1 : lo ≤ v <;> by_cases h2 : v ≤ hi <;> simp [h1, h2]

/-- Rounding is monotone between integers: from a real at least the integer `z`, one at least `z`. -/
theorem le_round {z : ℤ} {x : ℝ} (h : (z : ℝ) ≤ x) : z ≤ Ideal.roundHalfEven x := by
  have : z ≤ ⌊x⌋ := Int.le_floor.2 h
  unfold Ideal.roundHalfEven
  dsimp only
  split_ifs <;> omega

theorem round_le {z : ℤ} {x : ℝ} (h : x ≤ (z : ℝ)) : Ideal.roundHalfEven x ≤ z := by
  have h1 : ⌊x⌋ ≤ z := by exact_mod_cast (Int.floor_le x).trans h
  unfold Ideal.roundHalfEven
  dsimp only
  have h2 : ⌊x⌋ = z → x - ⌊x⌋ ≤ 0 := fun e => by rw [e]; linarith
  rcases eq_or_lt_of_le h1 with e | e
  · have := h2 e
    rw [e] at this ⊢
    split_ifs <;> first | omega | (exfalso; linarith)
  · split_ifs <;> omega

theorem round_int (z : ℤ) : Ideal.roundHalfEven (z : ℝ) = z :=
  le_antisymm (round_le le_rfl) (le_round le_rfl)

/-- An integer from -8 to 7 survives the conversion to an 8-bit integer. -/
theorem fptosi8 (z : ℤ) (h1 : -8 ≤ z) (h2 : z ≤ 7) : Ideal.fptosi 8 ((z : ℝ) : EReal) = BitVec.ofInt 8 z := by
  unfold Ideal.fptosi
  have : Ideal.truncInt (z : ℝ) = z := by
    unfold Ideal.truncInt; simp
  simp [this]
  try (congr 1; omega)

/-- Both codes are one integer from -8 to 7, the kernel's as a float and the mathematics' as an 8-bit integer. -/
theorem code_int (v : EReal) : ∃ z : ℤ, -8 ≤ z ∧ z ≤ 7 ∧ code v = ((z : ℝ) : EReal) ∧ codeR v = BitVec.ofInt 8 z
    ∧ (∀ x : ℝ, v = (x : EReal) → -8 ≤ x → x ≤ 7 → z = Ideal.roundHalfEven x)
    ∧ (v < ((-8 : ℝ) : EReal) → z = -8) ∧ (((7 : ℝ) : EReal) < v → z = 7) := by
  have hle : ((-8 : ℝ) : EReal) ≤ ((7 : ℝ) : EReal) := by rw [EReal.coe_le_coe_iff]; norm_num
  have key : ∀ z : ℤ, -8 ≤ z → z ≤ 7 → code v = ((z : ℝ) : EReal) →
      min ((7 : ℝ) : EReal) (max ((-8 : ℝ) : EReal) (Ideal.liftRound Ideal.roundHalfEven v)) = ((z : ℝ) : EReal) →
      code v = ((z : ℝ) : EReal) ∧ codeR v = BitVec.ofInt 8 z := by
    intro z h1 h2 hc hr
    refine ⟨hc, ?_⟩
    unfold codeR
    rw [hiInt, loInt, hr, fptosi8 z h1 h2]
  by_cases h1 : v < ((-8 : ℝ) : EReal)
  · have e : code v = (((-8 : ℤ) : ℝ) : EReal) := by
      unfold code
      rw [clip_eq, max_eq_left h1.le, min_eq_right hle, Ideal.liftRound_coe]
      have := round_int (-8); push_cast at this; rw [this]
    have e2 : Ideal.liftRound Ideal.roundHalfEven v ≤ ((-8 : ℝ) : EReal) := by
      induction v with
      | bot => simp
      | top => simp at h1
      | coe x =>
        rw [EReal.coe_lt_coe_iff] at h1
        rw [Ideal.liftRound_coe, EReal.coe_le_coe_iff]
        have := round_le (z := -8) (x := x) (by push_cast; exact h1.le)
        exact_mod_cast this
    obtain ⟨a, b⟩ := key (-8) (by omega) (by omega) e (by rw [max_eq_left e2, min_eq_right hle]; push_cast; rfl)
    refine ⟨-8, by omega, by omega, a, b, ?_, fun _ => rfl, fun h => ?_⟩
    · rintro x rfl hx _
      rw [EReal.coe_lt_coe_iff] at h1; linarith
    · exact absurd (h.trans h1) (not_lt.2 hle)
  · by_cases h2 : ((7 : ℝ) : EReal) < v
    · have e : code v = (((7 : ℤ) : ℝ) : EReal) := by
        unfold code
        rw [clip_eq, max_eq_right (not_lt.1 h1), min_eq_left h2.le, Ideal.liftRound_coe]
        have := round_int 7; push_cast at this; rw [this]
      have e2 : ((7 : ℝ) : EReal) ≤ Ideal.liftRound Ideal.roundHalfEven v := by
        induction v with
        | bot => simp at h2
        | top => simp
        | coe x =>
          rw [EReal.coe_lt_coe_iff] at h2
          rw [Ideal.liftRound_coe, EReal.coe_le_coe_iff]
          have := le_round (z := 7) (x := x) (by push_cast; exact h2.le)
          exact_mod_cast this
      obtain ⟨a, b⟩ := key 7 (by omega) (by omega) e (by rw [max_eq_right (hle.trans e2), min_eq_left e2]; push_cast; rfl)
      refine ⟨7, by omega, by omega, a, b, ?_, fun h => absurd h h1, fun _ => rfl⟩
      rintro x rfl _ hx
      rw [EReal.coe_lt_coe_iff] at h2; linarith
    · obtain ⟨x, rfl⟩ : ∃ x : ℝ, v = (x : EReal) := by
        induction v with
        | bot => simp at h1
        | top => simp at h2
        | coe x => exact ⟨x, rfl⟩
      rw [not_lt, EReal.coe_le_coe_iff] at h1 h2
      have r1 := le_round (z := -8) (x := x) (by push_cast; exact h1)
      have r2 := round_le (z := 7) (x := x) (by push_cast; exact h2)
      obtain ⟨a, b⟩ := key (Ideal.roundHalfEven x) r1 r2
        (by
          unfold code
          rw [clip_eq, max_eq_right (EReal.coe_le_coe_iff.2 h1), min_eq_right (EReal.coe_le_coe_iff.2 h2), Ideal.liftRound_coe])
        (by
          rw [Ideal.liftRound_coe, max_eq_right, min_eq_right]
          · rw [EReal.coe_le_coe_iff]; exact_mod_cast r2
          · rw [EReal.coe_le_coe_iff]; exact_mod_cast r1)
      refine ⟨_, r1, r2, a, b, fun y hy _ _ => by rw [EReal.coe_eq_coe_iff.1 hy], fun h => ?_, fun h => ?_⟩
      · rw [EReal.coe_lt_coe_iff] at h; linarith
      · rw [EReal.coe_lt_coe_iff] at h; linarith

/-- A small integer is read back from its 8-bit word. -/
theorem toInt8 (z : ℤ) (h1 : -8 ≤ z) (h2 : z ≤ 7) : (BitVec.ofInt 8 z).toInt = z := by
  have : ∀ k : Fin 16, (BitVec.ofInt 8 ((k.val : ℤ) - 8)).toInt = (k.val : ℤ) - 8 := by decide
  have := this ⟨(z + 8).toNat, by omega⟩
  simpa [Int.toNat_of_nonneg (show 0 ≤ z + 8 by omega)] using this

/-- The factor of the scale's gradient is the mathematical one. -/
theorem factor_eq (v : EReal) : factor v = factorR v := by
  obtain ⟨z, h1, h2, hc, hr, -, hlo, hhi⟩ := code_int v
  have hlo' : v < ((-8 : ℝ) : EReal) → ((z : ℝ) : EReal) = ((-8 : ℝ) : EReal) := fun h => by
    rw [hlo h]; push_cast; rfl
  have hhi' : ((7 : ℝ) : EReal) < v → ((z : ℝ) : EReal) = ((7 : ℝ) : EReal) := fun h => by
    rw [hhi h]; push_cast; rfl
  have hle : ((-8 : ℝ) : EReal) ≤ ((7 : ℝ) : EReal) := by rw [EReal.coe_le_coe_iff]; norm_num
  unfold factor factorR
  rw [inside_eq, hc, hr, toInt8 z h1 h2, seven, minusEight]
  unfold maskR
  rw [seven, minusEight]
  generalize ((z : ℝ) : EReal) = q at *
  generalize ((-8 : ℝ) : EReal) = lo at *
  generalize ((7 : ℝ) : EReal) = hi at *
  by_cases a : v < lo
  · simp [Ideal.cmp, IntOp.andi, Scalar.select, a, not_le.2 a, hlo' a]
  · by_cases b : hi < v
    · simp [Ideal.cmp, IntOp.andi, Scalar.select, a, b, not_le.2 b, hhi' b]
    · simp [Ideal.cmp, IntOp.andi, Scalar.select, a, b, not_lt.1 a, not_lt.1 b]

/-- The byte that the kernel forms by arithmetic from two codes is the two nibbles. -/
theorem nibbles : ∀ a b : Fin 16,
    BitVec.setWidth 8 (IntOp.xori (BitVec.ofInt 32 (((a.val : ℤ) - 8) + ((b.val : ℤ) - 8) * 16 + 136)) 136#32)
      = byteR (BitVec.ofInt 8 ((a.val : ℤ) - 8)) (BitVec.ofInt 8 ((b.val : ℤ) - 8)) := by
  decide +kernel

end Cert.Spec

end
-- ==== Proof.RefAt.lean ====
module

public import proofs.«01_k».proof.Proof.Gen.ReferenceIdeal.Value
public import proofs.«01_k».proof.Proof.Weights
public import Idealize.ShloMosaic.Lib.Pointwise

@[expose] public section

set_option maxRecDepth 16384

noncomputable section

/-! The reference's payloads at an index. -/

namespace Cert.Spec
open Idealize.ShloMosaic

/-- The inverses of the largest codes, as floats. -/
theorem inv448 : Ideal.ofBits .f32 0x3B124925#32 = (((9586981 : ℝ) / 2 ^ (32 : ℕ) : ℝ) : EReal) := by
  simp [Ideal.ofBits, Ideal.ieee]
  try rw [← EReal.coe_mul]
  try norm_num
theorem inv57344 : Ideal.ofBits .f32 0x37924925#32 = (((9586981 : ℝ) / 2 ^ (39 : ℕ) : ℝ) : EReal) := by
  simp [Ideal.ofBits, Ideal.ieee]
  try rw [← EReal.coe_mul]
  try norm_num

end Cert.Spec

namespace Cert.ReferenceIdeal.At
open Idealize.ShloMosaic Idealize.ShloMosaic.TcCoe Idealize.SL.Sem
open Cert.ReferenceIdeal Cert.ReferenceIdeal.Gen

/-- A maximum over the two leading axes is a maximum over the 1536 rows they make. -/
theorem colMax {n : Nat} {φ : FTy} (v : FVec Ideal ⟨3, ![12, 128, n]⟩ φ) (b : BitVec φ.bits) (h : (⟨3, ![12, 128, n]⟩ : Shape).Reduces [0, 1] ⟨1, ![n]⟩)
    (hφ) (hacc) (l : Fin n) :
    multiReduction .maximumf [0, 1] ⟨1, ![n]⟩ v b h hφ hacc (ix1 l)
      = (Finset.univ : Finset (Fin 1536)).fold max (Ideal.ofBits φ b)
          (fun k => v (ix3 ⟨k.val / 128, by omega⟩ ⟨k.val % 128, by omega⟩ l)) := by
  rw [multiReduction_maximumf_eq_fold]
  refine Finset.fold_filter_eq_fold_of_fiber _ _
    (fun k : Fin 1536 => ix3 (⟨k.val / 128, by omega⟩ : Fin 12) (⟨k.val % 128, by omega⟩ : Fin 128) l) ?_ ?_ _ _
  · intro a b e
    have e0 := congrArg Fin.val (congrFun e 0)
    have e1 := congrArg Fin.val (congrFun e 1)
    apply Fin.ext
    have e0' : a.val / 128 = b.val / 128 := e0
    have e1' : a.val % 128 = b.val % 128 := e1
    omega
  · intro i
    constructor
    · intro e
      have h0 : (i 0).val < 12 := (i 0).isLt
      have h1 : (i 1).val < 128 := (i 1).isLt
      refine ⟨⟨(i 0).val * 128 + (i 1).val, by omega⟩, ?_⟩
      funext a; apply Fin.ext
      match a with
      | ⟨0, _⟩ => show ((i 0).val * 128 + (i 1).val) / 128 = (i 0).val; omega
      | ⟨1, _⟩ => show ((i 0).val * 128 + (i 1).val) % 128 = (i 1).val; omega
      | ⟨2, _⟩ => exact (congrArg Fin.val (congrFun e ⟨0, Nat.zero_lt_one⟩)).symm
    · rintro ⟨k, rfl⟩
      funext b
      apply Fin.ext
      match b with
      | ⟨0, _⟩ => rfl

/-- The start of both maxima is one number. -/
theorem negInf : Ideal.ofBits .f32 0xFF800000#32 = Ideal.ofBits .bf16 0xFF80#16 := by
  simp [Ideal.ofBits, Ideal.ieee]

/-- A column of a rank-3 array, its two leading axes as one. -/
def col {n : Nat} (b : (⟨3, ![12, 128, n]⟩ : Shape).Idx → EReal) (l : Fin n) : Fin 1536 → EReal :=
  fun k => b (ix3 ⟨k.val / 128, by omega⟩ ⟨k.val % 128, by omega⟩ l)

/-- The ratio of a column, as the reference forms it. -/
theorem ratio_eq {n : Nat} (b : FVec Ideal ⟨3, ![12, 128, n]⟩ .bf16) (h : (⟨3, ![12, 128, n]⟩ : Shape).Reduces [0, 1] ⟨1, ![n]⟩)
    (hb : FTy.bits .bf16 < FTy.bits .f32) (hφ) (hacc) (c : BitVec 32) (l : Fin n) :
    mulf (multiReduction .maximumf [0, 1] ⟨1, ![n]⟩ (absf (extf .f32 b hb)) 0xFF800000#32 h hφ hacc)
        (broadcast ⟨1, ![n]⟩ (Scalar.ofBits .f32 c)) (ix1 l)
      = Spec.ratio (Ideal.ofBits .f32 c) (col b l) := by
  show multiReduction .maximumf [0, 1] ⟨1, ![n]⟩ (absf (extf .f32 b hb)) 0xFF800000#32 h hφ hacc (ix1 l) * Ideal.ofBits .f32 c = _
  rw [colMax, negInf]
  rfl

/-- The exponents of a vector of ratios `r` of the magnitudes `a`. -/
def expV {n : Nat} (a r : FVec Ideal ⟨1, ![n]⟩ .f32) : FVec Ideal ⟨1, ![n]⟩ .f32 :=
  select (cmpf .oeq a (broadcast ⟨1, ![n]⟩ (Scalar.ofBits .f32 0x00000000#32))) (broadcast ⟨1, ![n]⟩ (Scalar.ofBits .f32 0x00000000#32))
    (addf (floor (divf (log r) (broadcast ⟨1, ![n]⟩ (Scalar.log (Scalar.ofBits .f32 0x40000000#32 : Ideal .f32)))))
      (broadcast ⟨1, ![n]⟩ (Scalar.ofBits .f32 0x3F800000#32)))

/-- A magnitude is zero exactly when its ratio is. -/
theorem expV_apply {n : Nat} (a : FVec Ideal ⟨1, ![n]⟩ .f32) (c : BitVec 32) (q : ℝ) (hq : 0 < q) (hc : Ideal.ofBits .f32 c = ((q : ℝ) : EReal))
    (l : Fin n) : expV a (mulf a (broadcast ⟨1, ![n]⟩ (Scalar.ofBits .f32 c))) (ix1 l)
      = Scale.expLog (mulf a (broadcast ⟨1, ![n]⟩ (Scalar.ofBits .f32 c)) (ix1 l)) := by
  have key : ∀ z : EReal, Ideal.cmp .oeq z (Ideal.ofBits .f32 0#32) = Ideal.cmp .oeq (z * Ideal.ofBits .f32 c) (Ideal.ofBits .f32 0#32) := by
    intro z
    have hz : (z = 0) ↔ z * Ideal.ofBits .f32 c = 0 := by
      have hne : ((q : ℝ) : EReal) ≠ 0 := by exact_mod_cast hq.ne'
      rw [hc, mul_eq_zero, or_iff_left hne]
    simp only [Ideal.cmp, Ideal.ofBits_zero_f32, hz]
  exact congrArg (fun d => Scalar.select d (Ideal.ofBits .f32 0#32)
    (Ideal.liftRound Int.floor (Ideal.div (Ideal.log ((a (ix1 l) : EReal) * Ideal.ofBits .f32 c)) (Ideal.log (Ideal.ofBits .f32 0x40000000#32)))
      + Ideal.ofBits .f32 0x3F800000#32)) (key (a (ix1 l)))

/-- The exponent of a column of `x`. -/
theorem p2 (b : Vec Ideal S12x128x3584 .bf16) (l : Fin 3584) :
    k0_pay2 b (ix1 l) = Scale.expLog (Spec.ratio (Ideal.ofBits .f32 0x3B124925#32) (col b l)) := by
  rw [← ratio_eq b reduces_S12x128x3584_S3584 bitsLt_bf16_f32 (.inl rfl) rfl, ← expV_apply _ _ _ (by positivity) Spec.inv448]
  rfl

/-- The exponent of a column of `dy`. -/
theorem p9 (b : Vec Ideal S12x128x18944 .bf16) (l : Fin 18944) :
    k0_pay9 (k0_pay7 b) (k0_pay8 b) (ix1 l) = Scale.expLog (Spec.ratio (Ideal.ofBits .f32 0x37924925#32) (col b l)) := by
  rw [← ratio_eq b reduces_S12x128x18944_S18944 bitsLt_bf16_f32 (.inl rfl) rfl, ← expV_apply _ _ _ (by positivity) Spec.inv57344]
  rfl

/-- A quantised number, by the mathematics' exponent. -/
def quantR (lo hi r v : EReal) : EReal := min hi (max lo (v * Ideal.exp2 (Ideal.ofBits .f32 0#32 - Scale.expLog r)))
theorem exp2V_apply {n : Nat} (e : FVec Ideal ⟨1, ![n]⟩ .f32) (l : Fin n) : exp2 e (ix1 l) = Ideal.exp2 (e (ix1 l)) := rfl

/-- The scale of a column of `x`. -/
theorem p4 (b : Vec Ideal S12x128x3584 .bf16) (l : Fin 3584) :
    k0_pay4 b (ix1 l) = Ideal.exp2 (Scale.expLog (Spec.ratio (Ideal.ofBits .f32 0x3B124925#32) (col b l))) :=
  (exp2V_apply (k0_pay2 b) l).trans (congrArg Ideal.exp2 (p2 b l))

/-- The scale of a column of `dy`. -/
theorem p11 (b : Vec Ideal S12x128x18944 .bf16) (l : Fin 18944) :
    k0_pay11 (k0_pay7 b) (k0_pay8 b) (ix1 l) = Ideal.exp2 (Scale.expLog (Spec.ratio (Ideal.ofBits .f32 0x37924925#32) (col b l))) :=
  (exp2V_apply (k0_pay9 (k0_pay7 b) (k0_pay8 b)) l).trans (congrArg Ideal.exp2 (p9 b l))

/-- A rank-3 array scaled column by column and clipped; `B` lays a vector along the columns. -/
theorem quantV {n : Nat} (v : FVec Ideal ⟨3, ![12, 128, n]⟩ .f32) (e : FVec Ideal ⟨1, ![n]⟩ .f32) (lo hi : BitVec 32)
    (B : FVec Ideal ⟨1, ![n]⟩ .f32 → FVec Ideal ⟨3, ![12, 128, n]⟩ .f32) (i : Fin 12) (j : Fin 128) (l : Fin n)
    (hB : ∀ u, B u (ix3 i j l) = u (ix1 l)) :
    minimumf (broadcast ⟨3, ![12, 128, n]⟩ (Scalar.ofBits .f32 hi)) (maximumf (broadcast ⟨3, ![12, 128, n]⟩ (Scalar.ofBits .f32 lo))
      (mulf v (B (exp2 (subf (broadcast ⟨1, ![n]⟩ (Scalar.ofBits .f32 0x00000000#32)) e))))) (ix3 i j l)
      = min (Ideal.ofBits .f32 hi) (max (Ideal.ofBits .f32 lo) (v (ix3 i j l) * Ideal.exp2 (Ideal.ofBits .f32 0#32 - e (ix1 l)))) := by
  have : ∀ u : FVec Ideal ⟨3, ![12, 128, n]⟩ .f32, minimumf (broadcast ⟨3, ![12, 128, n]⟩ (Scalar.ofBits .f32 hi)) (maximumf (broadcast ⟨3, ![12, 128, n]⟩ (Scalar.ofBits .f32 lo))
      (mulf v u)) (ix3 i j l) = min (Ideal.ofBits .f32 hi) (max (Ideal.ofBits .f32 lo) (v (ix3 i j l) * u (ix3 i j l))) := fun u => rfl
  rw [this, hB]
  rfl

/-- The codes of `x`. -/
theorem p3 (b : Vec Ideal S12x128x3584 .bf16) (i : Fin 12) (j : Fin 128) (l : Fin 3584) :
    k0_pay3 b (ix3 i j l) = quantR (Ideal.ofBits .f32 0xC3E00000#32) (Ideal.ofBits .f32 0x43E00000#32)
      (Spec.ratio (Ideal.ofBits .f32 0x3B124925#32) (col b l)) (b (ix3 i j l)) :=
  (quantV (k0_pay1 b) (k0_pay2 b) 0xC3E00000#32 0x43E00000#32
    (fun u => broadcastTo S12x128x3584 (shapeCast S1x1x3584 u shapeCasts_S3584_S1x1x3584) broadcasts_S1x1x3584_S12x128x3584)
    i j l (fun u => by pointwise)).trans
    (congrArg (fun z => min (Ideal.ofBits .f32 0x43E00000#32) (max (Ideal.ofBits .f32 0xC3E00000#32)
      (b (ix3 i j l) * Ideal.exp2 (Ideal.ofBits .f32 0#32 - z)))) (p2 b l))

/-- The codes of `dy`. -/
theorem p10 (b : Vec Ideal S12x128x18944 .bf16) (i : Fin 12) (j : Fin 128) (l : Fin 18944) :
    k0_pay10 (k0_pay5 b) (k0_pay7 b) (k0_pay8 b) (ix3 i j l)
      = quantR (Ideal.ofBits .f32 0xC7600000#32) (Ideal.ofBits .f32 0x47600000#32)
      (Spec.ratio (Ideal.ofBits .f32 0x37924925#32) (col b l)) (b (ix3 i j l)) :=
  (quantV (k0_pay5 b) (k0_pay9 (k0_pay7 b) (k0_pay8 b)) 0xC7600000#32 0x47600000#32
    (fun u => broadcastTo S12x128x18944 (shapeCast S1x1x18944 u shapeCasts_S18944_S1x1x18944) broadcasts_S1x1x18944_S12x128x18944)
    i j l (fun u => by pointwise)).trans
    (congrArg (fun z => min (Ideal.ofBits .f32 0x47600000#32) (max (Ideal.ofBits .f32 0xC7600000#32)
      (b (ix3 i j l) * Ideal.exp2 (Ideal.ofBits .f32 0#32 - z)))) (p9 b l))

end Cert.ReferenceIdeal.At
end
-- ==== Proof.Bound.lean ====
module

public import proofs.«01_k».proof.Proof.Gen.Pre_in_range
public import proofs.«01_k».proof.Proof.RefAt
public import Idealize.ShloMosaic.Lib.ReduceAll
public import Idealize.ShloMosaic.Lib.KernelVsHost

@[expose] public section

set_option maxRecDepth 16384

noncomputable section

/-! The precondition read at an index, and what it gives: the kernel's scales are the mathematics' scales. -/

namespace Cert.Spec
open Idealize.ShloMosaic

/-- The largest bf16 number. -/
theorem bf16Max : Ideal.ofBits .bf16 0x7F7F#16 = (((255 : ℝ) * 2 ^ (120 : ℕ) : ℝ) : EReal) := by
  simp [Ideal.ofBits, Ideal.ieee]
  try rw [← EReal.coe_mul]
  try norm_num

theorem bot_bf16 : Ideal.ofBits .bf16 0xFF80#16 = (⊥ : EReal) := by
  simp [Ideal.ofBits, Ideal.ieee]

/-- The ratio of a column of finite numbers is in the range of the kernel's search. -/
theorem ratio_range (q : ℝ) (hq0 : 0 < q) (hq : q ≤ 1 / 4) (f : Fin 1536 → EReal)
    (hf : ∀ k, FloatOps.absf (F := Ideal) (φ := .bf16) (f k) ≤ Ideal.ofBits .bf16 0x7F7F#16) :
    ratio ((q : ℝ) : EReal) f < (((2 : ℝ) ^ (126 : ℤ) : ℝ) : EReal) := by
  unfold ratio
  generalize hM : (Finset.univ.fold max (Ideal.ofBits .bf16 0xFF80#16) (fun k => FloatOps.absf (F := Ideal) (φ := .bf16) (f k)) : EReal) = M
  have h1 : M ≤ (((255 : ℝ) * 2 ^ (120 : ℕ) : ℝ) : EReal) := by
    rw [← hM, Finset.fold_max_le, bot_bf16]
    exact ⟨bot_le, fun k _ => (hf k).trans_eq bf16Max⟩
  have h0 : 0 ≤ M := by
    rw [← hM, Finset.le_fold_max]
    refine Or.inr ⟨0, Finset.mem_univ _, ?_⟩
    show (0 : EReal) ≤ max (f 0) (-(f 0))
    rcases le_total 0 (f 0) with h | h
    · exact le_max_of_le_left h
    · exact le_max_of_le_right (EReal.neg_nonneg.2 h)
  clear hM
  change EReal at M
  induction M using EReal.rec with
  | bot => simp at h0
  | top => exact absurd h1 (not_le.2 (EReal.coe_lt_top _))
  | coe a =>
    rw [EReal.coe_le_coe_iff] at h1
    have h0' : 0 ≤ a := by exact_mod_cast h0
    rw [← EReal.coe_mul]
    rw [EReal.coe_lt_coe_iff]
    calc a * q ≤ (255 * 2 ^ (120 : ℕ) : ℝ) * (1 / 4) := mul_le_mul h1 hq hq0.le (by positivity)
      _ < (2 : ℝ) ^ (126 : ℤ) := by norm_num

/-- A column of finite numbers whose ratio is zero or at least the smallest normal number. -/
def Good (c : EReal) (f : Fin 1536 → EReal) : Prop :=
  (∀ k, FloatOps.absf (F := Ideal) (φ := .bf16) (f k) ≤ Ideal.ofBits .bf16 0x7F7F#16)
    ∧ (ratio c f = 0 ∨ Ideal.ofBits .f32 0x00800000#32 ≤ ratio c f)

/-- On such a column the kernel's scale and its inverse are the mathematics'. -/
theorem scale_x (f : Fin 1536 → EReal) (hf : Good (Ideal.ofBits .f32 0x3B124925#32) f) :
    scaleK (ratio (Ideal.ofBits .f32 0x3B124925#32) f) = Ideal.exp2 (Scale.expLog (ratio (Ideal.ofBits .f32 0x3B124925#32) f))
      ∧ ∀ lo hi v, quantK lo hi (ratio (Ideal.ofBits .f32 0x3B124925#32) f) v
        = ReferenceIdeal.At.quantR lo hi (ratio (Ideal.ofBits .f32 0x3B124925#32) f) v := by
  have h := ratio_range ((9586981 : ℝ) / 2 ^ (32 : ℕ)) (by positivity) (by norm_num) f hf.1
  rw [← inv448] at h
  have e := Scale.pow2_expOf hf.2 h
  exact ⟨e.1, fun lo hi v => congrArg (fun z => min hi (max lo (v * z))) e.2⟩
theorem scale_y (f : Fin 1536 → EReal) (hf : Good (Ideal.ofBits .f32 0x37924925#32) f) :
    scaleK (ratio (Ideal.ofBits .f32 0x37924925#32) f) = Ideal.exp2 (Scale.expLog (ratio (Ideal.ofBits .f32 0x37924925#32) f))
      ∧ ∀ lo hi v, quantK lo hi (ratio (Ideal.ofBits .f32 0x37924925#32) f) v
        = ReferenceIdeal.At.quantR lo hi (ratio (Ideal.ofBits .f32 0x37924925#32) f) v := by
  have h := ratio_range ((9586981 : ℝ) / 2 ^ (39 : ℕ)) (by positivity) (by norm_num) f hf.1
  rw [← inv57344] at h
  have e := Scale.pow2_expOf hf.2 h
  exact ⟨e.1, fun lo hi v => congrArg (fun z => min hi (max lo (v * z))) e.2⟩

end Cert.Spec

namespace Cert.Pre_in_range
open Idealize.ShloMosaic Cert.Pre_in_range.Gen Cert.ReferenceIdeal.At

/-- A bit that two comparisons' disjunction sets. -/
theorem or_bit (r a b : EReal) (h : IntOp.ori (Ideal.cmp .oeq r a) (Ideal.cmp .oge r b) = 1#1) : r = a ∨ b ≤ r := by
  by_contra hn
  rw [not_or] at hn
  simp [Ideal.cmp, hn.1, hn.2] at h
  exact absurd h (by decide)

/-- The host's maximum over the two leading axes, at a column. -/
theorem hostMax {n : Nat} (v : FVec Ideal ⟨3, ![12, 128, n]⟩ .bf16) (h : (⟨3, ![12, 128, n]⟩ : Shape).ReducesTo [0, 1] ⟨1, ![n]⟩)
    (h' : (⟨3, ![12, 128, n]⟩ : Shape).Reduces [0, 1] ⟨1, ![n]⟩) (hu : 0 < S_.numel) (l : Fin n) :
    Host.reduce FloatOps.maximumf v (constant S_ .bf16 0xFF80#16) h hu (ix1 l)
      = (Finset.univ : Finset (Fin 1536)).fold max (Ideal.ofBits .bf16 0xFF80#16)
          (fun k => v (ix3 ⟨k.val / 128, by omega⟩ ⟨k.val % 128, by omega⟩ l)) :=
  (congrFun (hostReduce_maximumf_eq_multiReduction v 0xFF80#16 h hu h' (.inr rfl) rfl) (ix1 l)).trans (colMax v _ h' (.inr rfl) rfl l)

/-- What the precondition says of one array, column by column. -/
theorem column {n : Nat} (v : FVec Ideal ⟨3, ![12, 128, n]⟩ .bf16) (c : BitVec 32)
    (h : (⟨3, ![12, 128, n]⟩ : Shape).ReducesTo [0, 1] ⟨1, ![n]⟩) (h' : (⟨3, ![12, 128, n]⟩ : Shape).Reduces [0, 1] ⟨1, ![n]⟩)
    (hu : 0 < S_.numel)
    (h1 : ∀ i, Ideal.cmp .ole (FloatOps.absf (F := Ideal) (φ := .bf16) (v i)) (Ideal.ofBits .bf16 0x7F7F#16) = 1#1)
    (h2 : ∀ l, IntOp.ori
      (Ideal.cmp .oeq ((Host.reduce (FloatOps.maximumf (F := Ideal) (φ := .bf16)) (Host.absf v) (constant (F := Ideal) S_ .bf16 0xFF80#16) h hu l : EReal) * Ideal.ofBits .f32 c)
        (Ideal.ofBits .f32 0#32))
      (Ideal.cmp .oge ((Host.reduce (FloatOps.maximumf (F := Ideal) (φ := .bf16)) (Host.absf v) (constant (F := Ideal) S_ .bf16 0xFF80#16) h hu l : EReal) * Ideal.ofBits .f32 c)
        (Ideal.ofBits .f32 0x00800000#32)) = 1#1) (l : Fin n) : Spec.Good (Ideal.ofBits .f32 c) (col v l) := by
  constructor
  · intro k
    have e := h1 (ix3 ⟨k.val / 128, by omega⟩ ⟨k.val % 128, by omega⟩ l)
    by_contra hn
    have hn' : ¬ (FloatOps.absf (F := Ideal) (φ := .bf16) (v (ix3 ⟨k.val / 128, by omega⟩ ⟨k.val % 128, by omega⟩ l)) ≤ Ideal.ofBits .bf16 0x7F7F#16) := hn
    simp [Ideal.cmp, hn'] at e
  · have e := or_bit _ _ _ (h2 (ix1 l))
    rw [hostMax (Host.absf v) h h' hu l, Ideal.ofBits_zero_f32] at e
    exact e

/-- The same, of the vectors that the precondition forms. -/
theorem columnV {n : Nat} (v : FVec Ideal ⟨3, ![12, 128, n]⟩ .bf16) (c : BitVec 32)
    (h : (⟨3, ![12, 128, n]⟩ : Shape).ReducesTo [0, 1] ⟨1, ![n]⟩) (h' : (⟨3, ![12, 128, n]⟩ : Shape).Reduces [0, 1] ⟨1, ![n]⟩)
    (hu : 0 < S_.numel) (hb : FTy.bits .bf16 < FTy.bits .f32) (hd : S_.BroadcastsInDim ⟨1, ![n]⟩ (![] : Fin 0 → Fin 1))
    (h1 : ∀ i, Ideal.cmp .ole (FloatOps.absf (F := Ideal) (φ := .bf16) (v i)) (Ideal.ofBits .bf16 0x7F7F#16) = 1#1)
    (h2 : ∀ l, ori
      (cmpf .oeq (mulf (extf .f32 (Host.reduce FloatOps.maximumf (Host.absf v) (constant (F := Ideal) S_ .bf16 0xFF80#16) h hu) hb)
          (broadcastInDim ⟨1, ![n]⟩ ![] hd (constant (F := Ideal) S_ .f32 c)))
        (broadcastInDim ⟨1, ![n]⟩ ![] hd (constant (F := Ideal) S_ .f32 0x00000000#32)))
      (cmpf .oge (mulf (extf .f32 (Host.reduce FloatOps.maximumf (Host.absf v) (constant (F := Ideal) S_ .bf16 0xFF80#16) h hu) hb)
          (broadcastInDim ⟨1, ![n]⟩ ![] hd (constant (F := Ideal) S_ .f32 c)))
        (broadcastInDim ⟨1, ![n]⟩ ![] hd (constant (F := Ideal) S_ .f32 0x00800000#32))) l = 1#1) (l : Fin n) :
    Spec.Good (Ideal.ofBits .f32 c) (col v l) := column v c h h' hu h1 h2 l

/-- The precondition read back. -/
theorem decode (x : FVec Ideal S12x128x3584 .bf16) (y : FVec Ideal S12x128x18944 .bf16) (w : FVec Ideal S18944x3584 .f32) (s : FVec Ideal S18944 .f32)
    [Facts] (h : ∀ i, fn (F := Ideal) x y w s i = 1#1) :
    (∀ l, Spec.Good (Ideal.ofBits .f32 0x3B124925#32) (col x l)) ∧ (∀ l, Spec.Good (Ideal.ofBits .f32 0x37924925#32) (col y l)) := by
  have h0 := h ix0
  dsimp only [fn, fn_part1] at h0
  obtain ⟨hX, hY⟩ := IntOp.andi_eq_one.1 h0
  obtain ⟨x1, x2⟩ := IntOp.andi_eq_one.1 hX
  obtain ⟨y1, y2⟩ := IntOp.andi_eq_one.1 hY
  have x1' := Host.reduce_andi_all _ _ _ _ _ x1
  have x2' := Host.reduce_andi_all _ _ _ _ _ x2
  have y1' := Host.reduce_andi_all _ _ _ _ _ y1
  have y2' := Host.reduce_andi_all _ _ _ _ _ y2
  exact ⟨columnV x _ _ Cert.ReferenceIdeal.Gen.reduces_S12x128x3584_S3584 _ _ _ x1' x2',
    columnV y _ _ Cert.ReferenceIdeal.Gen.reduces_S12x128x18944_S18944 _ _ _ y1' y2'⟩

end Cert.Pre_in_range
end
-- ==== Proof.Pack.lean ====
module

public import proofs.«01_k».proof.Proof.Blocks
public import proofs.«01_k».proof.Proof.Weights

@[expose] public section

set_option maxRecDepth 16384

noncomputable section

/-! The byte that the kernel forms by its packing product is the two codes' nibbles. -/

namespace Cert.Spec
open Idealize.ShloMosaic

/-- A small integer survives the conversion to a 32-bit word. -/
theorem fptosi32 (z : ℤ) (h1 : 0 ≤ z) (h2 : z ≤ 300) : Ideal.fptosi 32 ((z : ℝ) : EReal) = BitVec.ofInt 32 z := by
  have h1' : (0 : ℝ) ≤ (z : ℝ) := by exact_mod_cast h1
  rw [Ideal.fptosi, Ideal.toIntClamped_coe, if_pos h1', Int.floor_intCast]
  congr 1
  omega

/-- The packing product of one column: its two rows' numbers, the second times 16. -/
theorem packSum (q : Fin 256 → EReal) (l : Fin 128) :
    ∑ i : Fin 256, q i * (if i.val / 2 = l.val then (if i.val % 2 = 0 then (1 : EReal) else 16) else 0)
      = q ⟨2 * l.val, by omega⟩ * 1 + q ⟨2 * l.val + 1, by omega⟩ * 16 := by
  have hne : (⟨2 * l.val, by omega⟩ : Fin 256) ≠ ⟨2 * l.val + 1, by omega⟩ := by simp [Fin.ext_iff]
  rw [← Finset.sum_subset (Finset.subset_univ {(⟨2 * l.val, by omega⟩ : Fin 256), ⟨2 * l.val + 1, by omega⟩}), Finset.sum_pair hne]
  · congr 1
    · rw [if_pos (by show (2 * l.val) / 2 = l.val; omega), if_pos (by show (2 * l.val) % 2 = 0; omega)]
    · rw [if_pos (by show (2 * l.val + 1) / 2 = l.val; omega), if_neg (by show ¬ (2 * l.val + 1) % 2 = 0; omega)]
  · intro i _ hi
    rw [if_neg, mul_zero]
    intro e
    apply hi
    simp only [Finset.mem_insert, Finset.mem_singleton, Fin.ext_iff]
    omega

theorem c136 : Ideal.ofBits .f32 0x43080000#32 = (((136 : ℤ) : ℝ) : EReal) := by
  simp [Ideal.ofBits, Ideal.ieee]
  try rw [← EReal.coe_mul]
  try norm_num

/-- The byte of the codes of two numbers. -/
theorem byteK_eq (v : Fin 256 → EReal) (p : Fin 256 → EReal) (l : Fin 128)
    (hp : ∀ i, p i = if i.val / 2 = l.val then (if i.val % 2 = 0 then (1 : EReal) else 16) else 0) :
    KernelIdeal.Tiles.byteK (fun i => code (v i)) p
      = byteR (codeR (v ⟨2 * l.val, by omega⟩)) (codeR (v ⟨2 * l.val + 1, by omega⟩)) := by
  obtain ⟨a, a1, a2, ac, ar, -⟩ := code_int (v ⟨2 * l.val, by omega⟩)
  obtain ⟨b, b1, b2, bc, br, -⟩ := code_int (v ⟨2 * l.val + 1, by omega⟩)
  rw [ar, br, funext hp]
  unfold KernelIdeal.Tiles.byteK
  rw [packSum, ac, bc, c136]
  have e : ((a : ℝ) : EReal) * 1 + ((b : ℝ) : EReal) * 16 + (((136 : ℤ) : ℝ) : EReal) = (((a + b * 16 + 136 : ℤ) : ℝ) : EReal) := by
    push_cast
    rw [mul_one]
    rfl
  rw [e]
  show BitVec.setWidth 8 (IntOp.xori (Ideal.fptosi 32 _) _) = _
  rw [fptosi32 _ (by omega) (by omega)]
  have := nibbles ⟨(a + 8).toNat, by omega⟩ ⟨(b + 8).toNat, by omega⟩
  simp only [Int.toNat_of_nonneg (show 0 ≤ a + 8 by omega), Int.toNat_of_nonneg (show 0 ≤ b + 8 by omega), add_sub_cancel_right] at this
  exact this

end Cert.Spec
end
-- ==== Proof.RefB.lean ====
module

public import proofs.«01_k».proof.Proof.RefAt

@[expose] public section

set_option maxRecDepth 16384

noncomputable section

/-! The reference's payloads of the gradient and of the weights' codes at an index. -/

namespace Cert.ReferenceIdeal.At
open Idealize.ShloMosaic Idealize.ShloMosaic.TcCoe Idealize.SL.Sem
open Cert.ReferenceIdeal Cert.ReferenceIdeal.Gen

theorem p12 (v27 : FVec Ideal S12x128x3584 .fp8e4m3) (v28 : FVec Ideal S3584 .f32) (v30 : FVec Ideal S12x128x18944 .f32)
    (v36 : IVec S18944 1) (v40 : FVec Ideal S18944 .f32) (r : Fin 18944) (j : Fin 3584) :
    k0_pay12 v27 v28 v30 v36 v40 (ix2 r j)
      = (∑ k : Fin 1536, col (k0_pay10 v30 v36 v40) r k * col v27 j k) * k0_pay11 v36 v40 (ix1 r) * v28 (ix1 j) := by
  unfold k0_pay12 col
  generalize k0_pay10 v30 v36 v40 = a
  generalize k0_pay11 v36 v40 = b
  pointwise

theorem p13 (w : Vec Ideal S18944x3584 .f32) (s : Vec Ideal S18944 .f32) (r : Fin 18944) (j : Fin 3584) :
    k0_pay13 w s (ix2 r j) = Ideal.div (w (ix2 r j)) (s (ix1 r)) := by
  pointwise [k0_pay13]

theorem p14 (w : Vec Ideal S18944x3584 .f32) (s : Vec Ideal S18944 .f32) (r : Fin 18944) (j : Fin 3584) :
    k0_pay14 w s (ix2 r j) = Spec.codeR (k0_pay13 w s (ix2 r j)) := by
  unfold k0_pay14
  generalize k0_pay13 w s = a
  rfl

theorem p15 (v27 : FVec Ideal S12x128x3584 .fp8e4m3) (v28 : FVec Ideal S3584 .f32) (v30 : FVec Ideal S12x128x18944 .f32)
    (v36 : IVec S18944 1) (v40 : FVec Ideal S18944 .f32) (w : Vec Ideal S18944x3584 .f32) (s : Vec Ideal S18944 .f32)
    (r : Fin 18944) (j : Fin 3584) :
    k0_pay15 v27 v28 v30 v36 v40 w s (ix2 r j)
      = Scalar.select (Spec.maskR (k0_pay13 w s (ix2 r j))) (k0_pay12 v27 v28 v30 v36 v40 (ix2 r j)) (Ideal.ofBits .f32 0#32) := by
  unfold k0_pay15
  generalize k0_pay13 w s = a
  generalize k0_pay12 v27 v28 v30 v36 v40 = b
  rfl

theorem p16 (g : FVec Ideal S18944x3584 .f32) (w : Vec Ideal S18944x3584 .f32) (s : Vec Ideal S18944 .f32) (r : Fin 18944) :
    k0_pay16 g (k0_pay13 w s) (k0_pay14 w s) (ix1 r)
      = Ideal.ofBits .f32 0x3BCEE116#32 * ∑ j : Fin 3584, Spec.factorR (k0_pay13 w s (ix2 r j)) * g (ix2 r j) := by
  have e : ∀ j, k0_pay14 w s (ix2 r j) = Spec.codeR (k0_pay13 w s (ix2 r j)) := p14 w s r
  generalize k0_pay13 w s = a at e ⊢
  generalize k0_pay14 w s = q at e ⊢
  pointwise [k0_pay16]
  refine congrArg _ (Finset.sum_congr rfl fun j _ => ?_)
  have f : Spec.factorR (a (ix2 r j)) = Scalar.select (Ideal.cmp .olt (a (ix2 r j)) (Ideal.ofBits .f32 0xC1000000#32)) (Ideal.ofBits .f32 0xC1000000#32)
    (Scalar.select (Ideal.cmp .ogt (a (ix2 r j)) (Ideal.ofBits .f32 0x40E00000#32)) (Ideal.ofBits .f32 0x40E00000#32)
      (((((q (ix2 r j))).toInt : ℝ) : EReal) - (a (ix2 r j)))) := by rw [e j]; rfl
  rw [f]
  generalize a (ix2 r j) = x
  generalize g (ix2 r j) = y
  generalize q (ix2 r j) = z
  simp only [Scalar.select, Ideal.cmp]
  by_cases h1 : x < Ideal.ofBits .f32 0xC1000000#32 <;> by_cases h2 : Ideal.ofBits .f32 0x40E00000#32 < x <;>
    simp [h1, h2] <;> rfl

theorem p17 (q : IVec S18944x3584 8) (r : Fin 18944) (l : Fin 1792) :
    k0_pay17 q (ix2 r l) = Spec.byteR (q (ix2 r ⟨l.val * 2, by omega⟩)) (q (ix2 r ⟨l.val * 2 + 1, by omega⟩)) := by
  pointwise [k0_pay17]
  rfl

end Cert.ReferenceIdeal.At
end
-- ==== Proof.Core.lean ====
module

public import proofs.«01_k».proof.Proof.Arrays
public import proofs.«01_k».proof.Proof.Bound
public import proofs.«01_k».proof.Proof.Pack
public import proofs.«01_k».proof.Proof.RefB

@[expose] public section

set_option maxRecDepth 16384

noncomputable section

/-! The kernels' arrays are the reference's, entry by entry. -/

namespace Cert.Core
open Idealize.ShloMosaic Idealize.ShloMosaic.TcCoe
open Cert.KernelIdeal.Run Cert.ReferenceIdeal.Gen Cert.ReferenceIdeal.At

variable {x : Vec Ideal Cert.ReferenceIdeal.S12x128x3584 .bf16} {y : Vec Ideal Cert.ReferenceIdeal.S12x128x18944 .bf16}
  {w : Vec Ideal Cert.ReferenceIdeal.S18944x3584 .f32} {s : Vec Ideal Cert.ReferenceIdeal.S18944 .f32}
  {A : Cert.KernelIdeal.S1536x3584.Idx → EReal} {Y : Cert.KernelIdeal.S1536x18944.Idx → EReal}
  {S : Cert.KernelIdeal.S74x1x256.Idx → EReal} {P : Cert.KernelIdeal.S256x128.Idx → EReal}

theorem codeX_eq (hA : ∀ j, (fun k => A (ix2 k j)) = col x j)
    (hx : ∀ l, Spec.Good (Ideal.ofBits .f32 0x3B124925#32) (col x l)) (k : Fin 1536) (j : Fin 3584) :
    codeX A k j = k0_pay3 (F := Ideal) x (ix3 (⟨k.val / 128, by omega⟩ : Fin 12) (⟨k.val % 128, by omega⟩ : Fin 128) j) := by
  rw [p3]
  unfold codeX ratX
  rw [hA j, (Spec.scale_x (col x j) (hx j)).2, show A (ix2 k j) = col x j k from congrFun (hA j) k]
  rfl

theorem scaleX_eq (hA : ∀ j, (fun k => A (ix2 k j)) = col x j)
    (hx : ∀ l, Spec.Good (Ideal.ofBits .f32 0x3B124925#32) (col x l)) (j : Fin 3584) :
    Spec.scaleK (ratX A j) = k0_pay4 (F := Ideal) x (ix1 j) := by
  rw [p4]
  unfold ratX
  rw [hA j]
  exact (Spec.scale_x (col x j) (hx j)).1

theorem codeY_eq (hY : ∀ r, (fun k => Y (ix2 k r)) = col y r)
    (hy : ∀ l, Spec.Good (Ideal.ofBits .f32 0x37924925#32) (col y l)) (k : Fin 1536) (r : Fin 18944) :
    codeY Y k r = k0_pay10 (F := Ideal) (k0_pay5 (F := Ideal) y) (k0_pay7 (F := Ideal) y) (k0_pay8 (F := Ideal) y) (ix3 (⟨k.val / 128, by omega⟩ : Fin 12) (⟨k.val % 128, by omega⟩ : Fin 128) r) := by
  rw [p10]
  unfold codeY ratY
  rw [hY r, (Spec.scale_y (col y r) (hy r)).2, show Y (ix2 k r) = col y r k from congrFun (hY r) k]
  rfl

theorem scaleY_eq (hY : ∀ r, (fun k => Y (ix2 k r)) = col y r)
    (hy : ∀ l, Spec.Good (Ideal.ofBits .f32 0x37924925#32) (col y l)) (r : Fin 18944) :
    Spec.scaleK (ratY Y r) = k0_pay11 (F := Ideal) (k0_pay7 (F := Ideal) y) (k0_pay8 (F := Ideal) y) (ix1 r) := by
  rw [p11]
  unfold ratY
  rw [hY r]
  exact (Spec.scale_y (col y r) (hy r)).1

theorem gradA_eq (hA : ∀ j, (fun k => A (ix2 k j)) = col x j) (hY : ∀ r, (fun k => Y (ix2 k r)) = col y r)
    (hx : ∀ l, Spec.Good (Ideal.ofBits .f32 0x3B124925#32) (col x l))
    (hy : ∀ l, Spec.Good (Ideal.ofBits .f32 0x37924925#32) (col y l)) (r : Fin 18944) (j : Fin 3584) :
    gradA Y (gxq A) (gsx A) r j = k0_pay12 (F := Ideal) (k0_pay3 (F := Ideal) x) (k0_pay4 (F := Ideal) x) (k0_pay5 (F := Ideal) y) (k0_pay7 (F := Ideal) y) (k0_pay8 (F := Ideal) y) (ix2 r j) := by
  rw [p12, ← scaleY_eq hY hy, ← scaleX_eq hA hx]
  have e : ∀ k : Fin 1536, col (k0_pay10 (F := Ideal) (k0_pay5 (F := Ideal) y) (k0_pay7 (F := Ideal) y) (k0_pay8 (F := Ideal) y)) r k * col (k0_pay3 (F := Ideal) x) j k = codeY Y k r * codeX A k j :=
    fun k => congrArg₂ (fun a b : EReal => a * b) (codeY_eq hY hy k r).symm (codeX_eq hA hx k j).symm
  rw [Finset.sum_congr rfl fun k _ => e k]
  rfl

theorem quot_eq (hS : ∀ r : Fin 18944, S (ix3 (⟨r.val / 256, by omega⟩ : Fin 74) (0 : Fin 1) (⟨r.val % 256, by omega⟩ : Fin 256)) = s (ix1 r))
    (r : Fin 18944) (j : Fin 3584) : quotA w S r j = k0_pay13 (F := Ideal) w s (ix2 r j) := by
  rw [p13]
  unfold quotA
  rw [hS]

/-- The weights' gradient. -/
theorem dw_eq (hA : ∀ j, (fun k => A (ix2 k j)) = col x j) (hY : ∀ r, (fun k => Y (ix2 k r)) = col y r)
    (hS : ∀ r : Fin 18944, S (ix3 (⟨r.val / 256, by omega⟩ : Fin 74) (0 : Fin 1) (⟨r.val % 256, by omega⟩ : Fin 256)) = s (ix1 r))
    (hx : ∀ l, Spec.Good (Ideal.ofBits .f32 0x3B124925#32) (col x l))
    (hy : ∀ l, Spec.Good (Ideal.ofBits .f32 0x37924925#32) (col y l)) (r : Fin 18944) (j : Fin 3584) :
    gdw Y (gxq A) (gsx A) w S (ix2 r j)
      = k0_pay15 (F := Ideal) (k0_pay3 (F := Ideal) x) (k0_pay4 (F := Ideal) x) (k0_pay5 (F := Ideal) y) (k0_pay7 (F := Ideal) y) (k0_pay8 (F := Ideal) y) w s (ix2 r j) := by
  rw [p15, ← gradA_eq hA hY hx hy, ← quot_eq hS, ← Spec.inside_eq, Ideal.ofBits_zero_f32]
  rfl

/-- The scales' gradient. -/
theorem ds_eq (hA : ∀ j, (fun k => A (ix2 k j)) = col x j) (hY : ∀ r, (fun k => Y (ix2 k r)) = col y r)
    (hS : ∀ r : Fin 18944, S (ix3 (⟨r.val / 256, by omega⟩ : Fin 74) (0 : Fin 1) (⟨r.val % 256, by omega⟩ : Fin 256)) = s (ix1 r))
    (hx : ∀ l, Spec.Good (Ideal.ofBits .f32 0x3B124925#32) (col x l))
    (hy : ∀ l, Spec.Good (Ideal.ofBits .f32 0x37924925#32) (col y l)) (r : Fin 18944) :
    dsA Y (gxq A) (gsx A) w S r
      = k0_pay16 (F := Ideal) (k0_pay12 (F := Ideal) (k0_pay3 (F := Ideal) x) (k0_pay4 (F := Ideal) x) (k0_pay5 (F := Ideal) y) (k0_pay7 (F := Ideal) y) (k0_pay8 (F := Ideal) y)) (k0_pay13 (F := Ideal) w s) (k0_pay14 (F := Ideal) w s) (ix1 r) := by
  rw [p16]
  unfold dsA
  refine congrArg (fun z : EReal => Ideal.ofBits .f32 0x3BCEE116#32 * z) (Finset.sum_congr rfl fun j _ => ?_)
  rw [← gradA_eq hA hY hx hy, ← quot_eq hS, Spec.factor_eq]

/-- The packed codes. -/
theorem byte_eq (hS : ∀ r : Fin 18944, S (ix3 (⟨r.val / 256, by omega⟩ : Fin 74) (0 : Fin 1) (⟨r.val % 256, by omega⟩ : Fin 256)) = s (ix1 r))
    (hP : ∀ (i : Fin 256) (l : Fin 128), P (ix2 i l) = if i.val / 2 = l.val then (if i.val % 2 = 0 then (1 : EReal) else 16) else 0)
    (r : Fin 18944) (l : Fin 1792) : byteA w S P r l = k0_pay17 (k0_pay14 (F := Ideal) w s) (ix2 r l) := by
  rw [p17, p14, p14, ← quot_eq hS, ← quot_eq hS]
  unfold byteA
  refine (Spec.byteK_eq (fun k : Fin 256 => quotA w S r ⟨256 * (l.val / 128) + k.val, by omega⟩) _ (⟨l.val % 128, by omega⟩ : Fin 128)
    (fun i => hP i _)).trans ?_
  refine congrArg₂ (fun a b : Fin 3584 => Spec.byteR (Spec.codeR (quotA w S r a)) (Spec.codeR (quotA w S r b))) (Fin.ext ?_) (Fin.ext ?_)
  · show 256 * (l.val / 128) + 2 * (l.val % 128) = l.val * 2
    omega
  · show 256 * (l.val / 128) + (2 * (l.val % 128) + 1) = l.val * 2 + 1
    omega

/-- A number's place in a [74, 1, 256] array. -/
theorem rowOf_ix (r : Fin 18944) : rowOf (ix3 (⟨r.val / 256, by omega⟩ : Fin 74) (0 : Fin 1) (⟨r.val % 256, by omega⟩ : Fin 256)) = r :=
  Fin.ext (by show r.val / 256 * 256 + r.val % 256 = r.val; omega)

end Cert.Core
end
-- ==== Proof.Result.lean ====
module

public import proofs.«01_k».proof.Proof.Host
public import proofs.«01_k».proof.Proof.Core
public import proofs.«01_k».proof.Proof.Gen.ReferenceIdeal.Value

@[expose] public section

set_option maxRecDepth 16384

noncomputable section

/-! Every result of the kernel program is the reference's, on inputs in range. -/

namespace Cert.ReferenceIdeal.At
open Idealize.ShloMosaic Idealize.ShloMosaic.TcCoe Cert.ReferenceIdeal Cert.ReferenceIdeal.Gen Cert.ReferenceIdeal.Value

variable (x : Vec Ideal S12x128x3584 .bf16) (y : Vec Ideal S12x128x18944 .bf16) (w : Vec Ideal S18944x3584 .f32) (s : Vec Ideal S18944 .f32)

theorem p18 : k0_pay18 x y w s = k0_pay3 x := by
  unfold k0_pay18
  rw [View.ld_unit_zero (S := S12x128x3584) hz0 _ x]
theorem p19 : k0_pay19 x y w s = k0_pay4 x := by
  unfold k0_pay19
  rw [View.ld_unit_zero (S := S12x128x3584) hz0 _ x]
theorem p20 : k0_pay20 x y w s = k0_pay5 y := by
  unfold k0_pay20
  rw [View.ld_unit_zero (S := S12x128x18944) hz1 _ y]
theorem p21 : k0_pay21 x y w s = k0_pay7 y := by
  unfold k0_pay21
  rw [View.ld_unit_zero (S := S12x128x18944) hz1 _ y]
theorem p22 : k0_pay22 x y w s = k0_pay8 y := by
  unfold k0_pay22
  rw [View.ld_unit_zero (S := S12x128x18944) hz1 _ y]
theorem p23 : k0_pay23 x y w s = k0_pay14 w s := by
  unfold k0_pay23
  rw [View.ld_unit_zero (S := S18944x3584) hz2 _ w, View.ld_unit_zero (S := S18944) hz3 _ s]

end Cert.ReferenceIdeal.At

namespace Cert.KernelIdeal.Run
open Idealize.ShloMosaic Idealize.ShloMosaic.TcCoe Idealize.SL.Sem
open Cert.KernelIdeal Cert.KernelIdeal.Gen
open Cert.ReferenceIdeal.At (col)

variable (m : (ℓ : Loc nD τ sig) → Buf (Elt Ideal) ℓ) (ρ : Dev nD → PrngReg)

/-- The four arguments as arrays of numbers. -/
def ax (c : Dev nD) : Vec Ideal Cert.ReferenceIdeal.S12x128x3584 .bf16 := m ((c : Thread nD τ).loc main_arg0)
def ay (c : Dev nD) : Vec Ideal Cert.ReferenceIdeal.S12x128x18944 .bf16 := m ((c : Thread nD τ).loc main_arg1)
def aw (c : Dev nD) : Vec Ideal Cert.ReferenceIdeal.S18944x3584 .f32 := m ((c : Thread nD τ).loc main_arg2)
def asc (c : Dev nD) : Vec Ideal Cert.ReferenceIdeal.S18944 .f32 := m ((c : Thread nD τ).loc main_arg3)
/-- The arrays that the kernels read, as the host forms them. -/
def kA (c : Dev nD) : S1536x3584.Idx → EReal := W1 m ρ c (Proc.devRef .tc main_v0)
def kY (c : Dev nD) : S1536x18944.Idx → EReal := W9 m ρ c (Proc.devRef .tc main_v13)
def kS (c : Dev nD) : S74x1x256.Idx → EReal := W9 m ρ c (Proc.devRef .tc main_v14)
def kP (c : Dev nD) : S256x128.Idx → EReal := W9 m ρ c (Proc.devRef .tc main_v12)

theorem hA (c : Dev nD) (j : Fin 3584) : (fun k => kA m ρ c (ix2 k j)) = col (ax m c) j :=
  funext fun k => v0_at m ρ c k j
theorem hY (c : Dev nD) (r : Fin 18944) : (fun k => kY m ρ c (ix2 k r)) = col (ay m c) r :=
  funext fun k => v13_at m ρ c k r
theorem hS (c : Dev nD) (r : Fin 18944) :
    kS m ρ c (ix3 (⟨r.val / 256, by omega⟩ : Fin 74) (0 : Fin 1) (⟨r.val % 256, by omega⟩ : Fin 256)) = asc m c (ix1 r) :=
  (v14_at m ρ c _ _ _).trans (congrArg (fun q : Fin 18944 => asc m c (ix1 q)) (Fin.ext (by show r.val / 256 * 256 + r.val % 256 = r.val; omega)))
theorem hP (c : Dev nD) (i : Fin 256) (l : Fin 128) :
    kP m ρ c (ix2 i l) = if i.val / 2 = l.val then (if i.val % 2 = 0 then (1 : EReal) else 16) else 0 := v12_at m ρ c i l

/-- What no host operation between the kernels writes reaches the second as the first left it. -/
theorem keep (c : Dev nD) (r : Ref sig .tc) (h : r ∉ hostOps1_W ∧ r ∉ hostOps1_1_W ∧ r ∉ hostOps1_2_W ∧ r ∉ hostOps1_3_W
    ∧ r ∉ hostOps1_4_W ∧ r ∉ hostOps1_5_W ∧ r ∉ hostOps1_6_W) :
    W9 m ρ c (Proc.devRef .tc r) = W2 m ρ c (Proc.devRef .tc r) :=
  (W9_of m ρ c r h.2.2.2.2.2.2).trans <| (W8_of m ρ c r h.2.2.2.2.2.1).trans <| (W7_of m ρ c r h.2.2.2.2.1).trans <|
    (W6_of m ρ c r h.2.2.2.1).trans <| (W5_of m ρ c r h.2.2.1).trans <| (W4_of m ρ c r h.2.1).trans (W3_of m ρ c r h.1)

theorem q9 (c : Dev nD) : W9 m ρ c (Proc.devRef .tc main_v1_0) = gxq (kA m ρ c) :=
  (keep m ρ c main_v1_0 (by decide)).trans ((W2_arr m ρ c 1).trans (arr0_1 (V1 m ρ) c))
theorem s9 (c : Dev nD) : W9 m ρ c (Proc.devRef .tc main_v1_1) = gsx (kA m ρ c) :=
  (keep m ρ c main_v1_1 (by decide)).trans ((W2_arr m ρ c 2).trans (arr0_2 (V1 m ρ) c))
theorem w9 (c : Dev nD) : W9 m ρ c (Proc.devRef .tc main_arg2) = aw m c := W9_args m ρ c main_arg2 (by decide)

theorem a6 (c : Dev nD) : W10 m ρ c (Proc.devRef .tc main_v15_0)
    = gdw (kY m ρ c) (gxq (kA m ρ c)) (gsx (kA m ρ c)) (aw m c) (kS m ρ c) := by
  have e := (W10_arr m ρ c 6).trans (arr1_6 (V9 m ρ) c)
  rw [show V9 m ρ c main_v1_0 = gxq (kA m ρ c) from q9 m ρ c, show V9 m ρ c main_v1_1 = gsx (kA m ρ c) from s9 m ρ c,
    show V9 m ρ c main_arg2 = aw m c from w9 m ρ c] at e
  exact e
theorem a7 (c : Dev nD) : W10 m ρ c (Proc.devRef .tc main_v15_1)
    = gds (kY m ρ c) (gxq (kA m ρ c)) (gsx (kA m ρ c)) (aw m c) (kS m ρ c) := by
  have e := (W10_arr m ρ c 7).trans (arr1_7 (V9 m ρ) c)
  rw [show V9 m ρ c main_v1_0 = gxq (kA m ρ c) from q9 m ρ c, show V9 m ρ c main_v1_1 = gsx (kA m ρ c) from s9 m ρ c,
    show V9 m ρ c main_arg2 = aw m c from w9 m ρ c] at e
  exact e
theorem a8 (c : Dev nD) : W10 m ρ c (Proc.devRef .tc main_v15_2) = gyq (kY m ρ c) := (W10_arr m ρ c 8).trans (arr1_8 (V9 m ρ) c)
theorem a9 (c : Dev nD) : W10 m ρ c (Proc.devRef .tc main_v15_3) = gsy (kY m ρ c) := (W10_arr m ρ c 9).trans (arr1_9 (V9 m ρ) c)
theorem a10 (c : Dev nD) : W10 m ρ c (Proc.devRef .tc main_v15_4) = gqp (aw m c) (kS m ρ c) (kP m ρ c) := by
  have e := (W10_arr m ρ c 10).trans (arr1_10 (V9 m ρ) c)
  rw [show V9 m ρ c main_arg2 = aw m c from w9 m ρ c] at e
  exact e

variable (hx : ∀ c l, Spec.Good (Ideal.ofBits .f32 0x3B124925#32) (col (ax m c) l))
  (hy : ∀ c l, Spec.Good (Ideal.ofBits .f32 0x37924925#32) (col (ay m c) l))

open Cert.ReferenceIdeal.At Cert.ReferenceIdeal.Value

include hx hy in
theorem r0 (c : Dev nD) : W11 m ρ c (Proc.devRef .tc main_v15_0) = G4 (ax m c) (ay m c) (aw m c) (asc m c) := by
  refine (W11_of m ρ c main_v15_0 (by decide)).trans ((a6 m ρ c).trans ?_)
  unfold G4
  rw [p18, p19, p20, p21, p22]
  funext i
  rw [eq_ix2 i]
  exact Core.dw_eq (hA m ρ c) (hY m ρ c) (hS m ρ c) (hx c) (hy c) (i 0) (i 1)

include hx hy in
theorem r1 (c : Dev nD) : W11 m ρ c (Proc.devRef .tc main_v16) = G5 (ax m c) (ay m c) (aw m c) (asc m c) := by
  unfold G5
  rw [p18, p19, p20, p21, p22, p23]
  funext i
  rw [eq_ix1 i]
  refine (v16_at m ρ c (i 0)).trans ?_
  rw [a7]
  refine Eq.trans ?_ (Core.ds_eq (hA m ρ c) (hY m ρ c) (hS m ρ c) (hx c) (hy c) (i 0))
  exact congrArg (dsA (kY m ρ c) (gxq (kA m ρ c)) (gsx (kA m ρ c)) (aw m c) (kS m ρ c)) (Core.rowOf_ix (i 0))

/-- A row of the flat array and its two leading indices. -/
theorem flat {n : Nat} (b : (⟨3, ![12, 128, n]⟩ : Shape).Idx → EReal) (i : Fin 12) (j : Fin 128) (l : Fin n) :
    b (ix3 (⟨(i.val * 128 + j.val) / 128, by omega⟩ : Fin 12) (⟨(i.val * 128 + j.val) % 128, by omega⟩ : Fin 128) l) = b (ix3 i j l) :=
  congrArg₂ (fun a d => b (ix3 a d l)) (Fin.ext (by show (i.val * 128 + j.val) / 128 = i.val; omega))
    (Fin.ext (by show (i.val * 128 + j.val) % 128 = j.val; omega))

include hx in
theorem r2 (c : Dev nD) : W11 m ρ c (Proc.devRef .tc main_v17) = G6 (ax m c) (ay m c) (aw m c) (asc m c) := by
  unfold G6
  rw [p18]
  funext i
  rw [eq_ix3 i]
  refine (v17_at m ρ c (i 0) (i 1) (i 2)).trans ?_
  rw [W10_of m ρ c main_v1_0 (by decide), q9]
  refine (Core.codeX_eq (hA m ρ c) (hx c) _ (i 2)).trans ?_
  exact flat (Cert.ReferenceIdeal.Gen.k0_pay3 (F := Ideal) (ax m c)) (i 0) (i 1) (i 2)

include hx in
theorem r3 (c : Dev nD) : W11 m ρ c (Proc.devRef .tc main_v18) = G7 (ax m c) (ay m c) (aw m c) (asc m c) := by
  unfold G7
  rw [p19]
  funext i
  rw [eq_ix1 i]
  refine (v18_at m ρ c (i 0)).trans ?_
  rw [W10_of m ρ c main_v1_1 (by decide), s9]
  exact Core.scaleX_eq (hA m ρ c) (hx c) (i 0)

include hy in
theorem r4 (c : Dev nD) : W11 m ρ c (Proc.devRef .tc main_v19) = G8 (ax m c) (ay m c) (aw m c) (asc m c) := by
  unfold G8
  rw [p20, p21, p22]
  funext i
  rw [eq_ix3 i]
  refine (v19_at m ρ c (i 0) (i 1) (i 2)).trans ?_
  rw [a8]
  refine (Core.codeY_eq (hY m ρ c) (hy c) _ (i 2)).trans ?_
  exact flat (Cert.ReferenceIdeal.Gen.k0_pay10 (F := Ideal) (Cert.ReferenceIdeal.Gen.k0_pay5 (ay m c))
    (Cert.ReferenceIdeal.Gen.k0_pay7 (ay m c)) (Cert.ReferenceIdeal.Gen.k0_pay8 (ay m c))) (i 0) (i 1) (i 2)

include hy in
theorem r5 (c : Dev nD) : W11 m ρ c (Proc.devRef .tc main_v20) = G9 (ax m c) (ay m c) (aw m c) (asc m c) := by
  unfold G9
  rw [p21, p22]
  funext i
  rw [eq_ix1 i]
  refine (v20_at m ρ c (i 0)).trans ?_
  rw [a9]
  refine Eq.trans ?_ (Core.scaleY_eq (hY m ρ c) (hy c) (i 0))
  exact congrArg (fun r => Spec.scaleK (ratY (kY m ρ c) r)) (Core.rowOf_ix (i 0))

theorem r6 (c : Dev nD) : W11 m ρ c (Proc.devRef .tc main_v15_4) = G10 (ax m c) (ay m c) (aw m c) (asc m c) := by
  refine (W11_of m ρ c main_v15_4 (by decide)).trans ((a10 m ρ c).trans ?_)
  unfold G10
  rw [p23]
  funext i
  rw [eq_ix2 i]
  exact Core.byte_eq (hS m ρ c) (hP m ρ c) (i 0) (i 1)

end Cert.KernelIdeal.Run
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.ReferenceIdeal.Value
public import proofs.«01_k».proof.Proof.KernelRun
public import proofs.«01_k».proof.Proof.Result
public import Idealize.ShloMosaic.Adequacy
public import Idealize.ShloMosaic.Init

@[expose] public section

noncomputable section

namespace Cert.Proof

open Idealize.ShloMosaic Idealize.SL.Sem Cert.Kernel

/-- On inputs in range the kernel program and the reference end with the same seven results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m ρ m' ρ' hpre hargs
  have hd := fun c => Cert.Pre_in_range.decode _ _ _ _ fun i => congrFun (hpre c) i
  have hx := fun c => (hd c).1
  have hy := fun c => (hd c).2
  refine ⟨fun c => Cert.KernelIdeal.Gen.W11 m ρ c (Proc.devRef .tc Cert.KernelIdeal.main_v15_0),
    fun c => Cert.KernelIdeal.Gen.W11 m ρ c (Proc.devRef .tc Cert.KernelIdeal.main_v16),
    fun c => Cert.KernelIdeal.Gen.W11 m ρ c (Proc.devRef .tc Cert.KernelIdeal.main_v17),
    fun c => Cert.KernelIdeal.Gen.W11 m ρ c (Proc.devRef .tc Cert.KernelIdeal.main_v18),
    fun c => Cert.KernelIdeal.Gen.W11 m ρ c (Proc.devRef .tc Cert.KernelIdeal.main_v19),
    fun c => Cert.KernelIdeal.Gen.W11 m ρ c (Proc.devRef .tc Cert.KernelIdeal.main_v20),
    fun c => Cert.KernelIdeal.Gen.W11 m ρ c (Proc.devRef .tc Cert.KernelIdeal.main_v15_4),
    Cert.KernelIdeal.Run.run m ρ, ?_⟩
  refine (θ_run _ _ _).mono (fun r h c => ?_) (Cert.ReferenceIdeal.Value.run m' ρ')
  obtain ⟨h0, h1, h2, h3, h4, h5, h6, k⟩ := h c
  obtain ⟨e0, e1, e2, e3⟩ := hargs c
  rw [e0, e1, e2, e3] at h0 h1 h2 h3 h4 h5 h6
  exact ⟨h0.trans (Cert.KernelIdeal.Run.r0 m ρ hx hy c).symm, h1.trans (Cert.KernelIdeal.Run.r1 m ρ hx hy c).symm,
    h2.trans (Cert.KernelIdeal.Run.r2 m ρ hx c).symm, h3.trans (Cert.KernelIdeal.Run.r3 m ρ hx c).symm,
    h4.trans (Cert.KernelIdeal.Run.r4 m ρ hy c).symm, h5.trans (Cert.KernelIdeal.Run.r5 m ρ hy c).symm,
    h6.trans (Cert.KernelIdeal.Run.r6 m ρ c).symm, k⟩

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
